-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_conditioning [hPre_finite_conditioning : Cert.Pre_finite_conditioning.Facts] (m : (ℓ : Loc Cert.ModIdeal.nD Cert.ModIdeal.τ Cert.ModIdeal.sig) → Buf (Elt Ideal) ℓ) : Prop :=
  ∀ c : Dev Cert.ModIdeal.nD,
    (Cert.Pre_finite_conditioning.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))).1 = (fun _ => 1#1)
    ∧ (Cert.Pre_finite_conditioning.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))).2.1 = (fun _ => 1#1)
    ∧ (Cert.Pre_finite_conditioning.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))).2.2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_conditioning [hPre_finite_conditioning : Cert.Pre_finite_conditioning.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_conditioning.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))).1 = (fun _ => 1#1)
    ∧ (Cert.Pre_finite_conditioning.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))).2.1 = (fun _ => 1#1)
    ∧ (Cert.Pre_finite_conditioning.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))).2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModIdeal_pre_finite_conditioning [hModIdeal : Cert.ModIdeal.Facts] [hPre_finite_conditioning : Cert.Pre_finite_conditioning.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_conditioning m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ModRefIdeal_pre_finite_conditioning [hModRefIdeal : Cert.ModRefIdeal.Facts] [hPre_finite_conditioning : Cert.Pre_finite_conditioning.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_conditioning m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Attn_AttnIdeal : Prop :=
  IdealRules.named_const.Statement Cert.AttnIdeal.κ "scale" .f32 0x3E38AA3B#32 ((8⁻¹ * (Real.log 2)⁻¹ : ℝ) : EReal)

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v14)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v23) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v40)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v40) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v86) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Mod_ModIdeal : Prop :=
  True

def algebraic_ModIdeal_ModRefIdeal_pre_finite_conditioning [hModIdeal : Cert.ModIdeal.Facts] [hModRefIdeal : Cert.ModRefIdeal.Facts] [hPre_finite_conditioning : Cert.Pre_finite_conditioning.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_conditioning m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v5)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v5) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v9) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hMod : Cert.Mod.Facts) (hModIdeal : Cert.ModIdeal.Facts) (hModRefIdeal : Cert.ModRefIdeal.Facts) (hPre_finite_scores : Cert.Pre_finite_scores.Facts) (hPre_finite_conditioning : Cert.Pre_finite_conditioning.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Mod (hMod := hMod)
    ∧ quiescent_ModIdeal (hModIdeal := hModIdeal)
    ∧ quiescent_ModIdeal_pre_finite_conditioning (hModIdeal := hModIdeal) (hPre_finite_conditioning := hPre_finite_conditioning)
    ∧ quiescent_ModRefIdeal (hModRefIdeal := hModRefIdeal)
    ∧ quiescent_ModRefIdeal_pre_finite_conditioning (hModRefIdeal := hModRefIdeal) (hPre_finite_conditioning := hPre_finite_conditioning)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Experts_ExpertsIdeal
    ∧ algebraic_ExpertsIdeal_ExpertsRefIdeal (hExpertsIdeal := hExpertsIdeal) (hExpertsRefIdeal := hExpertsRefIdeal)
    ∧ preserves_Mod_ModIdeal
    ∧ algebraic_ModIdeal_ModRefIdeal_pre_finite_conditioning (hModIdeal := hModIdeal) (hModRefIdeal := hModRefIdeal) (hPre_finite_conditioning := hPre_finite_conditioning)
-- ==== Pre_finite_conditioning.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S8x1024 .f32) (main_arg1 : FVec F S1024 .f32) (main_arg2 : FVec F S4x1024x6144 .f32) (main_arg3 : FVec F S4x6144 .f32) : IVec S_ 1 × IVec S_ 1 × IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S4x1024x6144 .f32 := Host.absf main_arg2
  let main_cst_2 : FVec F S_ .f32 := constant S_ .f32 0x7F800000#32
  let main_v9 : FVec F S4x1024x6144 .f32 := broadcastInDim S4x1024x6144 ![] bcast_S_S4x1024x6144 main_cst_2
  let main_v10 : IVec S4x1024x6144 1 := cmpf .olt main_v8 main_v9
  let main_c_3 : IVec S_ 1 := constantI S_ 1 1#1
  let main_v11 : IVec S_ 1 := (fun x v => Host.reduce IntOp.andi x v reducesTo_S4x1024x6144_S_d0_1_2 h_S_) main_v10 main_c_3
  (main_v3, main_v7, main_v11)
-- ==== Pre_finite_scores.lean ====
abbrev S8x4096x16x64 : Shape := ⟨4, ![8, 4096, 16, 64]⟩
abbrev S8x4096x4x64 : Shape := ⟨4, ![8, 4096, 4, 64]⟩
abbrev S8x512x4x64 : Shape := ⟨4, ![8, 512, 4, 64]⟩
abbrev S36864x1024 : Shape := ⟨2, ![36864, 1024]⟩
abbrev S_ : Shape := ⟨0, ![]⟩

class Facts : Prop where
  bcast_S_S8x4096x16x64 : S_.BroadcastsInDim S8x4096x16x64 (![] : Fin 0 → Fin S8x4096x16x64.rank)
  reducesTo_S8x4096x16x64_S_d0_1_2_3 : S8x4096x16x64.ReducesTo [0, 1, 2, 3] S_
  h_S_ : 0 < S_.numel
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  bcast_S_S8x512x4x64 : S_.BroadcastsInDim S8x512x4x64 (![] : Fin 0 → Fin S8x512x4x64.rank)
  reducesTo_S8x512x4x64_S_d0_1_2_3 : S8x512x4x64.ReducesTo [0, 1, 2, 3] S_

variable [Facts]

def fn {F : FTy → Type} [FloatOps F] (main_arg0 : FVec F S8x4096x16x64 .f32) (main_arg1 : FVec F S8x4096x4x64 .f32) (main_arg2 : FVec F S8x4096x4x64 .f32) (main_arg3 : FVec F S8x512x4x64 .f32) (main_arg4 : FVec F S8x512x4x64 .f32) (main_arg5 : FVec F S36864x1024 .bf16) : IVec S_ 1 × IVec S_ 1 × IVec S_ 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_c : IVec S_ 1 := constantI S_ 1 1#1
  let main_v3 : IVec S_ 1 := (fun x v => Host.reduce IntOp.andi x v reducesTo_S8x4096x16x64_S_d0_1_2_3 h_S_) main_v2 main_c
  let main_v4 : FVec F S8x4096x4x64 .f32 := Host.absf main_arg1
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_c_1 : IVec S_ 1 := constantI S_ 1 1#1
  let main_v7 : IVec S_ 1 := (fun x v => Host.reduce IntOp.andi x v reducesTo_S8x4096x4x64_S_d0_1_2_3 h_S_) main_v6 main_c_1
  let main_v8 : FVec F S8x512x4x64 .f32 := Host.absf main_arg3
  let main_cst_2 : FVec F S_ .f32 := constant S_ .f32 0x7F800000#32
  let main_v9 : FVec F S8x512x4x64 .f32 := broadcastInDim S8x512x4x64 ![] bcast_S_S8x512x4x64 main_cst_2
  let main_v10 : IVec S8x512x4x64 1 := cmpf .olt main_v8 main_v9
  let main_c_3 : IVec S_ 1 := constantI S_ 1 1#1
  let main_v11 : IVec S_ 1 := (fun x v => Host.reduce IntOp.andi x v reducesTo_S8x512x4x64_S_d0_1_2_3 h_S_) main_v10 main_c_3
  (main_v3, main_v7, main_v11)
-- ==== Attn.lean ====
abbrev S8x4096x16x64 : Shape := ⟨4, ![8, 4096, 16, 64]⟩
abbrev S8x4096x4x64 : Shape := ⟨4, ![8, 4096, 4, 64]⟩
abbrev S8x512x4x64 : Shape := ⟨4, ![8, 512, 4, 64]⟩
abbrev S36864x1024 : Shape := ⟨2, ![36864, 1024]⟩
abbrev S8x16x4096x64 : Shape := ⟨4, ![8, 16, 4096, 64]⟩
abbrev S_ : Shape := ⟨0, ![]⟩
abbrev S8x16x4096x128 : Shape := ⟨4, ![8, 16, 4096, 128]⟩
abbrev S8x4x4096x64 : Shape := ⟨4, ![8, 4, 4096, 64]⟩
abbrev S8x4x4096x128 : Shape := ⟨4, ![8, 4, 4096, 128]⟩
abbrev S8x4x512x64 : Shape := ⟨4, ![8, 4, 512, 64]⟩
abbrev S8x4x512x128 : Shape := ⟨4, ![8, 4, 512, 128]⟩
abbrev S1x4x512x128 : Shape := ⟨4, ![1, 4, 512, 128]⟩
abbrev S1x1x4096x128 : Shape := ⟨4, ![1, 1, 4096, 128]⟩
abbrev S1x1x512x128 : Shape := ⟨4, ![1, 1, 512, 128]⟩
abbrev S512x256 : Shape := ⟨2, ![512, 256]⟩
abbrev S2048x128 : Shape := ⟨2, ![2048, 128]⟩
abbrev S4x512x128 : Shape := ⟨3, ![4, 512, 128]⟩
abbrev S512x128 : Shape := ⟨2, ![512, 128]⟩
abbrev S2048x512 : Shape := ⟨2, ![2048, 512]⟩
abbrev S2048 : Shape := ⟨1, ![2048]⟩
abbrev S2048x1 : Shape := ⟨2, ![2048, 1]⟩
abbrev S1x1x1024x128 : Shape := ⟨4, ![1, 1, 1024, 128]⟩
abbrev S1024x128 : Shape := ⟨2, ![1024, 128]⟩
abbrev S2048x1024 : Shape := ⟨2, ![2048, 1024]⟩

abbrev nBuf : Space → Nat
  | .hbm => 31
  | .vmem => 15
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x4x64, .f32⟩
  | .hbm, ⟨2, _⟩ => ⟨S8x4096x4x64, .f32⟩
  | .hbm, ⟨3, _⟩ => ⟨S8x512x4x64, .f32⟩
  | .hbm, ⟨4, _⟩ => ⟨S8x512x4x64, .f32⟩
  | .hbm, ⟨5, _⟩ => ⟨S36864x1024, .bf16⟩
  | .hbm, ⟨6, _⟩ => ⟨S8x16x4096x64, .f32⟩
  | .hbm, ⟨7, _⟩ => ⟨S_, .i32⟩
  | .hbm, ⟨8, _⟩ => ⟨S_, .f32⟩
  | .hbm, ⟨9, _⟩ => ⟨S8x16x4096x128, .f32⟩
  | .hbm, ⟨10, _⟩ => ⟨S8x4x4096x64, .f32⟩
  | .hbm, ⟨11, _⟩ => ⟨S8x4x4096x64, .bf16⟩
  | .hbm, ⟨12, _⟩ => ⟨S_, .f32⟩
  | .hbm, ⟨13, _⟩ => ⟨S_, .bf16⟩
  | .hbm, ⟨14, _⟩ => ⟨S8x4x4096x128, .bf16⟩
  | .hbm, ⟨15, _⟩ => ⟨S8x4x4096x64, .f32⟩
  | .hbm, ⟨16, _⟩ => ⟨S8x4x4096x64, .bf16⟩
  | .hbm, ⟨17, _⟩ => ⟨S_, .f32⟩
  | .hbm, ⟨18, _⟩ => ⟨S_, .bf16⟩
  | .hbm, ⟨19, _⟩ => ⟨S8x4x4096x128, .bf16⟩
  | .hbm, ⟨20, _⟩ => ⟨S8x4x512x64, .f32⟩
  | .hbm, ⟨21, _⟩ => ⟨S8x4x512x64, .bf16⟩
  | .hbm, ⟨22, _⟩ => ⟨S_, .f32⟩
  | .hbm, ⟨23, _⟩ => ⟨S_, .bf16⟩
  | .hbm, ⟨24, _⟩ => ⟨S8x4x512x128, .bf16⟩
  | .hbm, ⟨25, _⟩ => ⟨S8x4x512x64, .f32⟩
  | .hbm, ⟨26, _⟩ => ⟨S8x4x512x64, .bf16⟩
  | .hbm, ⟨27, _⟩ => ⟨S_, .f32⟩
  | .hbm, ⟨28, _⟩ => ⟨S_, .bf16⟩
  | .hbm, ⟨29, _⟩ => ⟨S8x4x512x128, .bf16⟩
  | .hbm, ⟨30, _⟩ => ⟨S36864x1024, .bf16⟩
  | .local _ .vmem, ⟨0, _⟩ => ⟨S1x4x512x128, .f32⟩
  | .local _ .vmem, ⟨1, _⟩ => ⟨S1x4x512x128, .f32⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S512x256, .bf16⟩
  | .local _ .vmem, ⟨11, _⟩ => ⟨S512x256, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call3_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call4_v0 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

@[reducible] def k0_t1_loop : Scf.Loop 32 :=
  let c0_i32 : BitVec 32 := 0#32
  let c4_i32 : BitVec 32 := 4#32
  let v40 : BitVec 32 := Scalar.addi c0_i32 c4_i32
  let c1_i32 : BitVec 32 := 1#32
  ⟨c0_i32, v40, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v66 : BitVec 32 := Scalar.muli arg13 c1024_i32
  v66
def k0_off1 (k0_t1 : Fin k0_t1_loop.trips) : Fin 4 → Nat :=
  let c0_44 : Index := 0#32
  let c0_45 : Index := 0#32
  let c0_i32 : BitVec 32 := 0#32
  let c1_i32 : BitVec 32 := 1#32
  let arg13 : BitVec 32 := Scf.iv c0_i32 c1_i32 k0_t1
  let c1024_i32 : BitVec 32 := 1024#32
  let v66 : BitVec 32 := Scalar.muli arg13 c1024_i32
  let v67 : BitVec 32 := v66
  let v68 : Index := Scalar.indexCast v67
  let c0_46 : Index := 0#32
  ![0, 0, v68.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c0_i32 : BitVec 32 := 0#32
  ![v2.toNat, arg1.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "scale" => some ((8⁻¹ * (Real.log 2)⁻¹ : ℝ) : EReal)
  | _ => none
-- ==== AttnRefIdeal.lean ====
abbrev S8x4096x16x64 : Shape := ⟨4, ![8, 4096, 16, 64]⟩
abbrev S8x4096x4x64 : Shape := ⟨4, ![8, 4096, 4, 64]⟩
abbrev S8x512x4x64 : Shape := ⟨4, ![8, 512, 4, 64]⟩
abbrev S36864x1024 : Shape := ⟨2, ![36864, 1024]⟩
abbrev S8x4608x4x64 : Shape := ⟨4, ![8, 4608, 4, 64]⟩
abbrev S8x4096x4x4x64 : Shape := ⟨5, ![8, 4096, 4, 4, 64]⟩
abbrev S8x4x4608x4096x4 : Shape := ⟨5, ![8, 4, 4608, 4096, 4]⟩
abbrev S8x4x4x4096x4608 : Shape := ⟨5, ![8, 4, 4, 4096, 4608]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S32768x1024 : Shape := ⟨2, ![32768, 1024]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x4x64, .f32⟩
  | .hbm, ⟨2, _⟩ => ⟨S8x4096x4x64, .f32⟩
  | .hbm, ⟨3, _⟩ => ⟨S8x512x4x64, .f32⟩
  | .hbm, ⟨4, _⟩ => ⟨S8x512x4x64, .f32⟩
  | .hbm, ⟨5, _⟩ => ⟨S36864x1024, .bf16⟩
  | .hbm, ⟨6, _⟩ => ⟨S8x4608x4x64, .f32⟩
  | .hbm, ⟨7, _⟩ => ⟨S8x4608x4x64, .f32⟩
  | .hbm, ⟨8, _⟩ => ⟨S8x4096x4x4x64, .f32⟩
  | .hbm, ⟨9, _⟩ => ⟨S8x4x4608x4096x4, .f32⟩
  | .hbm, ⟨10, _⟩ => ⟨S8x4x4x4096x4608, .f32⟩
  | .hbm, ⟨11, _⟩ => ⟨S_, .f32⟩
  | .hbm, ⟨12, _⟩ => ⟨S8x4x4x4096x4608, .f32⟩
  | .hbm, ⟨13, _⟩ => ⟨S8x4x4x4096x4608, .f32⟩
  | .hbm, ⟨14, _⟩ => ⟨S_, .f32⟩
  | .hbm, ⟨15, _⟩ => ⟨S8x4x4x4096, .f32⟩
  | .hbm, ⟨16, _⟩ => ⟨S_, .f32⟩
  | .hbm, ⟨17, _⟩ => ⟨S8x4x4x4096, .f32⟩
  | .hbm, ⟨18, _⟩ => ⟨S8x4x4x4096, .f32⟩
  | .hbm, ⟨19, _⟩ => ⟨S8x4x4x4096x1, .f32⟩
  | .hbm, ⟨20, _⟩ => ⟨S8x4x4x4096x4608, .f32⟩
  | .hbm, ⟨21, _⟩ => ⟨S8x4x4x4096x4608, .f32⟩
  | .hbm, ⟨22, _⟩ => ⟨S8x4x4x4096x4608, .f32⟩
  | .hbm, ⟨23, _⟩ => ⟨S_, .f32⟩
  | .hbm, ⟨24, _⟩ => ⟨S8x4x4x4096, .f32⟩
  | .hbm, ⟨25, _⟩ => ⟨S8x4x4x4096x1, .f32⟩
  | .hbm, ⟨26, _⟩ => ⟨S8x4x4x4096x4608, .f32⟩
  | .hbm, ⟨27, _⟩ => ⟨S8x4x4x4096x4608, .f32⟩
  | .hbm, ⟨28, _⟩ => ⟨S8x4x64x4x4096, .f32⟩
  | .hbm, ⟨29, _⟩ => ⟨S8x4096x4x4x64, .f32⟩
  | .hbm, ⟨30, _⟩ => ⟨S32768x1024, .f32⟩
  | .hbm, ⟨31, _⟩ => ⟨S4096x1024, .bf16⟩
  | .hbm, ⟨32, _⟩ => ⟨S32768x1024, .bf16⟩
  | .hbm, ⟨33, _⟩ => ⟨S36864x1024, .bf16⟩
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Experts.lean ====
abbrev S1310720x128 : Shape := ⟨2, ![1310720, 128]⟩
abbrev S32 : Shape := ⟨1, ![32]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1x32x8x128x2 : Shape := ⟨5, ![1, 32, 8, 128, 2]⟩
abbrev S1x32x8x2x128 : Shape := ⟨5, ![1, 32, 8, 2, 128]⟩
abbrev S1x32x1x2048 : Shape := ⟨4, ![1, 32, 1, 2048]⟩
abbrev S1x32x1x1024 : Shape := ⟨4, ![1, 32, 1, 1024]⟩
abbrev S_ : Shape := ⟨0, ![]⟩
abbrev S320 : Shape := ⟨1, ![320]⟩
abbrev S1x32 : Shape := ⟨2, ![1, 32]⟩
abbrev S320x1 : Shape := ⟨2, ![320, 1]⟩
abbrev S320x32 : Shape := ⟨2, ![320, 32]⟩
abbrev S1 : Shape := ⟨1, ![1]⟩
abbrev S256x256 : Shape := ⟨2, ![256, 256]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x1024x256 : Shape := ⟨4, ![1, 1, 1024, 256]⟩
abbrev S1024x256 : Shape := ⟨2, ![1024, 256]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 148
  | .vmem => 15
  | .smem => 2
  | _ => 0

abbrev hbmTy0_0 (i : Nat) : BufTy := match i % 128 with
  | 0 => ⟨S1310720x128, .f32⟩
  | 1 => ⟨S32, .i32⟩
  | 2 => ⟨S1x32x1024x2048, .f32⟩
  | 3 => ⟨S1x32x2048, .f32⟩
  | 4 => ⟨S1x32x1024x1024, .f32⟩
  | 5 => ⟨S1x32x1024, .f32⟩
  | 6 => ⟨S1x32x8x128x2, .f32⟩
  | 7 => ⟨S1x32x8x2x128, .f32⟩
  | 8 => ⟨S1x32x2048, .f32⟩
  | 9 => ⟨S1x32x1x2048, .f32⟩
  | 10 => ⟨S1x32x1x1024, .f32⟩
  | 11 => ⟨S_, .i32⟩
  | 12 => ⟨S32, .i32⟩
  | 13 => ⟨S32, .i32⟩
  | 14 => ⟨S_, .i32⟩
  | 15 => ⟨S32, .i32⟩
  | 16 => ⟨S32, .i32⟩
  | 17 => ⟨S_, .i32⟩
  | 18 => ⟨S_, .i32⟩
  | 19 => ⟨S32, .i32⟩
  | 20 => ⟨S32, .i32⟩
  | 21 => ⟨S32, .i32⟩
  | 22 => ⟨S_, .i32⟩
  | 23 => ⟨S32, .i32⟩
  | 24 => ⟨S32, .i1⟩
  | 25 => ⟨S32, .i32⟩
  | 26 => ⟨S32, .i32⟩
  | 27 => ⟨S_, .i32⟩
  | 28 => ⟨S32, .i32⟩
  | 29 => ⟨S32, .i1⟩
  | 30 => ⟨S32, .i1⟩
  | 31 => ⟨S_, .i32⟩
  | 32 => ⟨S32, .i32⟩
  | 33 => ⟨S32, .i32⟩
  | 34 => ⟨S32, .i32⟩
  | 35 => ⟨S_, .i32⟩
  | 36 => ⟨S32, .i32⟩
  | 37 => ⟨S32, .i32⟩
  | 38 => ⟨S_, .i32⟩
  | 39 => ⟨S_, .i32⟩
  | 40 => ⟨S32, .i32⟩
  | 41 => ⟨S320, .i32⟩
  | 42 => ⟨S_, .i32⟩
  | 43 => ⟨S320, .i32⟩
  | 44 => ⟨S320, .i32⟩
  | 45 => ⟨S1x32, .i32⟩
  | 46 => ⟨S320x1, .i32⟩
  | 47 => ⟨S320x32, .i32⟩
  | 48 => ⟨S320x32, .i32⟩
  | 49 => ⟨S320x32, .i1⟩
  | 50 => ⟨S320x32, .i32⟩
  | 51 => ⟨S_, .i32⟩
  | 52 => ⟨S320, .i32⟩
  | 53 => ⟨S_, .i32⟩
  | 54 => ⟨S320, .i32⟩
  | 55 => ⟨S1, .i32⟩
  | 56 => ⟨S_, .i32⟩
  | 57 => ⟨S_, .i32⟩
  | 58 => ⟨S1, .i32⟩
  | 59 => ⟨S1, .i32⟩
  | 60 => ⟨S1, .i32⟩
  | 61 => ⟨S_, .i32⟩
  | 62 => ⟨S1, .i32⟩
  | 63 => ⟨S1, .i1⟩
  | 64 => ⟨S1, .i32⟩
  | 65 => ⟨S1, .i32⟩
  | 66 => ⟨S_, .i32⟩
  | 67 => ⟨S1, .i32⟩
  | 68 => ⟨S1, .i1⟩
  | 69 => ⟨S1, .i1⟩
  | 70 => ⟨S_, .i32⟩
  | 71 => ⟨S1, .i32⟩
  | 72 => ⟨S1, .i32⟩
  | 73 => ⟨S256x256, .i32⟩
  | 74 => ⟨S256x256, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S256x256, .i32⟩
  | 82 => ⟨S256x256, .i32⟩
  | 83 => ⟨S_, .i32⟩
  | 84 => ⟨S256x256, .i32⟩
  | 85 => ⟨S256x256, .i1⟩
  | 86 => ⟨S_, .i32⟩
  | 87 => ⟨S256x256, .i32⟩
  | 88 => ⟨S256x256, .i1⟩
  | 89 => ⟨S_, .i32⟩
  | 90 => ⟨S_, .i1⟩
  | 91 => ⟨S256x256, .i1⟩
  | 92 => ⟨S256x256, .i1⟩
  | 93 => ⟨S256x256, .i1⟩
  | 94 => ⟨S256x256, .i32⟩
  | 95 => ⟨S256x256, .i32⟩
  | 96 => ⟨S256x256, .i32⟩
  | 97 => ⟨S_, .i32⟩
  | 98 => ⟨S256x256, .i32⟩
  | 99 => ⟨S256x256, .i1⟩
  | 100 => ⟨S_, .i32⟩
  | 101 => ⟨S_, .i32⟩
  | 102 => ⟨S256x256, .i32⟩
  | 103 => ⟨S256x256, .i32⟩
  | 104 => ⟨S256x256, .i32⟩
  | 105 => ⟨S_, .i32⟩
  | 106 => ⟨S256x256, .i32⟩
  | 107 => ⟨S256x256, .i1⟩
  | 108 => ⟨S256x256, .i32⟩
  | 109 => ⟨S256x256, .i32⟩
  | 110 => ⟨S_, .i32⟩
  | 111 => ⟨S256x256, .i32⟩
  | 112 => ⟨S256x256, .i1⟩
  | 113 => ⟨S256x256, .i1⟩
  | 114 => ⟨S_, .i32⟩
  | 115 => ⟨S256x256, .i32⟩
  | 116 => ⟨S256x256, .i32⟩
  | 117 => ⟨S256x256, .i32⟩
  | 118 => ⟨S_, .i32⟩
  | 119 => ⟨S_, .i32⟩
  | 120 => ⟨S256x256, .i32⟩
  | 121 => ⟨S256x256, .i32⟩
  | 122 => ⟨S256x256, .i32⟩
  | 123 => ⟨S_, .i32⟩
  | 124 => ⟨S256x256, .i32⟩
  | 125 => ⟨S256x256, .i1⟩
  | 126 => ⟨S256x256, .i32⟩
  | 127 => ⟨S256x256, .i32⟩
  | _ => ⟨S1310720x128, .f32⟩

abbrev hbmTy0_1 (i : Nat) : BufTy := match i % 128 with
  | 0 => ⟨S_, .i32⟩
  | 1 => ⟨S256x256, .i32⟩
  | 2 => ⟨S256x256, .i1⟩
  | 3 => ⟨S256x256, .i1⟩
  | 4 => ⟨S_, .i32⟩
  | 5 => ⟨S256x256, .i32⟩
  | 6 => ⟨S256x256, .i32⟩
  | 7 => ⟨S256x256, .i32⟩
  | 8 => ⟨S_, .i32⟩
  | 9 => ⟨S256x256, .i32⟩
  | 10 => ⟨S256x256, .i32⟩
  | 11 => ⟨S256x256, .i32⟩
  | 12 => ⟨S256x256, .i1⟩
  | 13 => ⟨S_, .f32⟩
  | 14 => ⟨S_, .f32⟩
  | 15 => ⟨S256x256, .f32⟩
  | 16 => ⟨S256x256, .f32⟩
  | 17 => ⟨S256x256, .f32⟩
  | 18 => ⟨S256x256, .bf16⟩
  | 19 => ⟨S1310720x128, .f32⟩
  | _ => ⟨S1310720x128, .f32⟩

abbrev hbmTy (i : Nat) : BufTy := match i / 128 with
  | 0 => hbmTy0_0 i
  | 1 => hbmTy0_1 i
  | _ => ⟨S1310720x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x256, .bf16⟩
  | .local _ .vmem, ⟨11, _⟩ => ⟨S4096x128, .f32⟩
  | .local _ .vmem, ⟨12, _⟩ => ⟨S4096x128, .f32⟩
  | .local _ .vmem, ⟨13, _⟩ => ⟨S1024x2048, .bf16⟩
  | .local _ .vmem, ⟨14, _⟩ => ⟨S1024x1024, .bf16⟩
  | .local _ .smem, ⟨0, _⟩ => ⟨S320, .i32⟩
  | .local _ .smem, ⟨1, _⟩ => ⟨S1, .i32⟩
  | _, _ => ⟨S1310720x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_call1_call0_c : Ref sig .tc := ⟨.hbm, 38, rfl⟩
abbrev main_call1_call0_v0 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_4 : Ref sig .tc := ⟨.hbm, 51, rfl⟩
abbrev main_v22 : Ref sig .tc := ⟨.hbm, 52, rfl⟩
abbrev main_c_5 : Ref sig .tc := ⟨.hbm, 53, rfl⟩
abbrev main_v23 : Ref sig .tc := ⟨.hbm, 54, rfl⟩
abbrev main_v25 : Ref sig .tc := ⟨.hbm, 55, rfl⟩
abbrev main_c_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v27 : Ref sig .tc := ⟨.hbm, 73, rfl⟩
abbrev main_v28 : Ref sig .tc := ⟨.hbm, 74, rfl⟩
abbrev main_c_7 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v29 : Ref sig .tc := ⟨.hbm, 96, rfl⟩
abbrev main_c_8 : Ref sig .tc := ⟨.hbm, 97, rfl⟩
abbrev main_v30 : Ref sig .tc := ⟨.hbm, 98, rfl⟩
abbrev main_v31 : Ref sig .tc := ⟨.hbm, 99, rfl⟩
abbrev main_c_9 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_c : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_0 : Ref sig .tc := ⟨.hbm, 114, rfl⟩
abbrev main_call4_v12 : Ref sig .tc := ⟨.hbm, 115, rfl⟩
abbrev main_call4_v13 : Ref sig .tc := ⟨.hbm, 116, rfl⟩
abbrev main_v32 : Ref sig .tc := ⟨.hbm, 117, rfl⟩
abbrev main_c_10 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_v5 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_c : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_c_0 : Ref sig .tc := ⟨.hbm, 132, rfl⟩
abbrev main_call5_v12 : Ref sig .tc := ⟨.hbm, 133, rfl⟩
abbrev main_call5_v13 : Ref sig .tc := ⟨.hbm, 134, rfl⟩
abbrev main_v33 : Ref sig .tc := ⟨.hbm, 135, rfl⟩
abbrev main_c_11 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_cst : Ref sig .tc := ⟨.hbm, 141, rfl⟩
abbrev main_cst_12 : Ref sig .tc := ⟨.hbm, 142, rfl⟩
abbrev main_call7_v0 : Ref sig .tc := ⟨.hbm, 143, rfl⟩
abbrev main_call7_v1 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v24 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_v24.idx, main_v26.idx], fun | 0 => main_v24.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertsRefIdeal.lean ====
abbrev S1310720x128 : Shape := ⟨2, ![1310720, 128]⟩
abbrev S32 : Shape := ⟨1, ![32]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S1 : Shape := ⟨1, ![1]⟩
abbrev S320 : Shape := ⟨1, ![320]⟩
abbrev S1x32 : Shape := ⟨2, ![1, 32]⟩
abbrev S320x1 : Shape := ⟨2, ![320, 1]⟩
abbrev S320x32 : Shape := ⟨2, ![320, 32]⟩
abbrev S320x512x1024 : Shape := ⟨3, ![320, 512, 1024]⟩
abbrev S32x1024x2048 : Shape := ⟨3, ![32, 1024, 2048]⟩
abbrev S320x1024x2048 : Shape := ⟨3, ![320, 1024, 2048]⟩
abbrev S320x512x2048 : Shape := ⟨3, ![320, 512, 2048]⟩
abbrev S32x2048 : Shape := ⟨2, ![32, 2048]⟩
abbrev S320x2048 : Shape := ⟨2, ![320, 2048]⟩
abbrev S320x1x2048 : Shape := ⟨3, ![320, 1, 2048]⟩
abbrev S32x1024x1024 : Shape := ⟨3, ![32, 1024, 1024]⟩
abbrev S320x1024x1024 : Shape := ⟨3, ![320, 1024, 1024]⟩
abbrev S32x1024 : Shape := ⟨2, ![32, 1024]⟩
abbrev S320x1024 : Shape := ⟨2, ![320, 1024]⟩
abbrev S320x1x1024 : Shape := ⟨3, ![320, 1, 1024]⟩
abbrev S320x1x1 : Shape := ⟨3, ![320, 1, 1]⟩

abbrev nBuf : Space → Nat
  | .hbm => 159
  | .vmem => 0
  | .smem => 0
  | _ => 0

abbrev hbmTy0_0 (i : Nat) : BufTy := match i % 128 with
  | 0 => ⟨S1310720x128, .f32⟩
  | 1 => ⟨S32, .i32⟩
  | 2 => ⟨S1x32x1024x2048, .f32⟩
  | 3 => ⟨S1x32x2048, .f32⟩
  | 4 => ⟨S1x32x1024x1024, .f32⟩
  | 5 => ⟨S1x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S1, .i32⟩
  | 37 => ⟨S_, .i32⟩
  | 38 => ⟨S_, .i32⟩
  | 39 => ⟨S1, .i32⟩
  | 40 => ⟨S1, .i32⟩
  | 41 => ⟨S1, .i32⟩
  | 42 => ⟨S_, .i32⟩
  | 43 => ⟨S1, .i32⟩
  | 44 => ⟨S1, .i1⟩
  | 45 => ⟨S1, .i32⟩
  | 46 => ⟨S1, .i32⟩
  | 47 => ⟨S_, .i32⟩
  | 48 => ⟨S1, .i32⟩
  | 49 => ⟨S1, .i1⟩
  | 50 => ⟨S1, .i1⟩
  | 51 => ⟨S_, .i32⟩
  | 52 => ⟨S1, .i32⟩
  | 53 => ⟨S1, .i32⟩
  | 54 => ⟨S1, .i32⟩
  | 55 => ⟨S320, .i32⟩
  | 56 => ⟨S_, .i32⟩
  | 57 => ⟨S320, .i32⟩
  | 58 => ⟨S320, .i32⟩
  | 59 => ⟨S1x32, .i32⟩
  | 60 => ⟨S320x1, .i32⟩
  | 61 => ⟨S320x32, .i32⟩
  | 62 => ⟨S320x32, .i32⟩
  | 63 => ⟨S320x32, .i1⟩
  | 64 => ⟨S320x32, .i32⟩
  | 65 => ⟨S_, .i32⟩
  | 66 => ⟨S320, .i32⟩
  | 67 => ⟨S_, .i32⟩
  | 68 => ⟨S320, .i32⟩
  | 69 => ⟨S320, .i32⟩
  | 70 => ⟨S320x512x1024, .f32⟩
  | 71 => ⟨S32x1024x2048, .f32⟩
  | 72 => ⟨S_, .i32⟩
  | 73 => ⟨S320, .i32⟩
  | 74 => ⟨S320, .i1⟩
  | 75 => ⟨S_, .i32⟩
  | 76 => ⟨S320, .i32⟩
  | 77 => ⟨S320, .i32⟩
  | 78 => ⟨S320, .i32⟩
  | 79 => ⟨S320x1, .i32⟩
  | 80 => ⟨S320x1024x2048, .f32⟩
  | 81 => ⟨S320x512x2048, .f32⟩
  | 82 => ⟨S32x2048, .f32⟩
  | 83 => ⟨S_, .i32⟩
  | 84 => ⟨S320, .i32⟩
  | 85 => ⟨S320, .i1⟩
  | 86 => ⟨S_, .i32⟩
  | 87 => ⟨S320, .i32⟩
  | 88 => ⟨S320, .i32⟩
  | 89 => ⟨S320, .i32⟩
  | 90 => ⟨S320x1, .i32⟩
  | 91 => ⟨S320x2048, .f32⟩
  | 92 => ⟨S320x1x2048, .f32⟩
  | 93 => ⟨S320x512x2048, .f32⟩
  | 94 => ⟨S320x512x2048, .f32⟩
  | 95 => ⟨S320x512x1024, .f32⟩
  | 96 => ⟨S_, .f32⟩
  | 97 => ⟨S320x512x1024, .f32⟩
  | 98 => ⟨S320x512x1024, .f32⟩
  | 99 => ⟨S320x512x1024, .f32⟩
  | 100 => ⟨S_, .f32⟩
  | 101 => ⟨S_, .f32⟩
  | 102 => ⟨S_, .f32⟩
  | 103 => ⟨S320x512x1024, .f32⟩
  | 104 => ⟨S320x512x1024, .f32⟩
  | 105 => ⟨S_, .f32⟩
  | 106 => ⟨S320x512x1024, .f32⟩
  | 107 => ⟨S320x512x1024, .f32⟩
  | 108 => ⟨S_, .f32⟩
  | 109 => ⟨S320x512x1024, .f32⟩
  | 110 => ⟨S320x512x1024, .f32⟩
  | 111 => ⟨S_, .f32⟩
  | 112 => ⟨S320x512x1024, .f32⟩
  | 113 => ⟨S320x512x1024, .f32⟩
  | 114 => ⟨S320x512x1024, .f32⟩
  | 115 => ⟨S320x512x1024, .f32⟩
  | 116 => ⟨S_, .f32⟩
  | 117 => ⟨S320x512x1024, .f32⟩
  | 118 => ⟨S320x512x1024, .f32⟩
  | 119 => ⟨S_, .f32⟩
  | 120 => ⟨S320x512x1024, .f32⟩
  | 121 => ⟨S320x512x1024, .f32⟩
  | 122 => ⟨S320x512x1024, .f32⟩
  | 123 => ⟨S320x512x1024, .f32⟩
  | 124 => ⟨S32x1024x1024, .f32⟩
  | 125 => ⟨S_, .i32⟩
  | 126 => ⟨S320, .i32⟩
  | 127 => ⟨S320, .i1⟩
  | _ => ⟨S1310720x128, .f32⟩

abbrev hbmTy0_1 (i : Nat) : BufTy := match i % 128 with
  | 0 => ⟨S_, .i32⟩
  | 1 => ⟨S320, .i32⟩
  | 2 => ⟨S320, .i32⟩
  | 3 => ⟨S320, .i32⟩
  | 4 => ⟨S320x1, .i32⟩
  | 5 => ⟨S320x1024x1024, .f32⟩
  | 6 => ⟨S320x512x1024, .f32⟩
  | 7 => ⟨S32x1024, .f32⟩
  | 8 => ⟨S_, .i32⟩
  | 9 => ⟨S320, .i32⟩
  | 10 => ⟨S320, .i1⟩
  | 11 => ⟨S_, .i32⟩
  | 12 => ⟨S320, .i32⟩
  | 13 => ⟨S320, .i32⟩
  | 14 => ⟨S320, .i32⟩
  | 15 => ⟨S320x1, .i32⟩
  | 16 => ⟨S320x1024, .f32⟩
  | 17 => ⟨S320x1x1024, .f32⟩
  | 18 => ⟨S320x512x1024, .f32⟩
  | 19 => ⟨S320x512x1024, .f32⟩
  | 20 => ⟨S320, .i32⟩
  | 21 => ⟨S_, .i32⟩
  | 22 => ⟨S320, .i32⟩
  | 23 => ⟨S320, .i1⟩
  | 24 => ⟨S320x1x1, .i1⟩
  | 25 => ⟨S_, .f32⟩
  | 26 => ⟨S_, .f32⟩
  | 27 => ⟨S320x512x1024, .i1⟩
  | 28 => ⟨S320x512x1024, .f32⟩
  | 29 => ⟨S320x512x1024, .f32⟩
  | 30 => ⟨S1310720x128, .f32⟩
  | _ => ⟨S1310720x128, .f32⟩

abbrev hbmTy (i : Nat) : BufTy := match i / 128 with
  | 0 => hbmTy0_0 i
  | 1 => hbmTy0_1 i
  | _ => ⟨S1310720x128, .f32⟩

abbrev bufTy : (tb : Table) → Fin (tcTables nBuf tb) → BufTy
  | .hbm, ⟨i, _⟩ => hbmTy i
  | _, _ => ⟨S1310720x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_c_5 : Ref sig .tc := ⟨.hbm, 65, rfl⟩
abbrev main_v19 : Ref sig .tc := ⟨.hbm, 66, rfl⟩
abbrev main_c_6 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_c_7 : Ref sig .tc := ⟨.hbm, 72, rfl⟩
abbrev main_v24 : Ref sig .tc := ⟨.hbm, 73, rfl⟩
abbrev main_v25 : Ref sig .tc := ⟨.hbm, 74, rfl⟩
abbrev main_c_8 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_9 : Ref sig .tc := ⟨.hbm, 83, rfl⟩
abbrev main_v33 : Ref sig .tc := ⟨.hbm, 84, rfl⟩
abbrev main_v34 : Ref sig .tc := ⟨.hbm, 85, rfl⟩
abbrev main_c_10 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_11 : Ref sig .tc := ⟨.hbm, 100, rfl⟩
abbrev main_cst_12 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v47 : Ref sig .tc := ⟨.hbm, 107, rfl⟩
abbrev main_cst_13 : Ref sig .tc := ⟨.hbm, 108, rfl⟩
abbrev main_v48 : Ref sig .tc := ⟨.hbm, 109, rfl⟩
abbrev main_v49 : Ref sig .tc := ⟨.hbm, 110, rfl⟩
abbrev main_cst_14 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_15 : Ref sig .tc := ⟨.hbm, 116, rfl⟩
abbrev main_v54 : Ref sig .tc := ⟨.hbm, 117, rfl⟩
abbrev main_v55 : Ref sig .tc := ⟨.hbm, 118, rfl⟩
abbrev main_cst_16 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_c_17 : Ref sig .tc := ⟨.hbm, 125, rfl⟩
abbrev main_v61 : Ref sig .tc := ⟨.hbm, 126, rfl⟩
abbrev main_v62 : Ref sig .tc := ⟨.hbm, 127, rfl⟩
abbrev main_c_18 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_c_19 : Ref sig .tc := ⟨.hbm, 136, rfl⟩
abbrev main_v70 : Ref sig .tc := ⟨.hbm, 137, rfl⟩
abbrev main_v71 : Ref sig .tc := ⟨.hbm, 138, rfl⟩
abbrev main_c_20 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_21 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v85 : Ref sig .tc := ⟨.hbm, 157, rfl⟩
abbrev main_v86 : Ref sig .tc := ⟨.hbm, 158, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S64x1x6144 : Shape := ⟨3, ![64, 1, 6144]⟩

abbrev nBuf : Space → Nat
  | .hbm => 11
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .hbm, ⟨10, _⟩ => ⟨S64x1x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x6144x16 : Shape := ⟨3, ![4, 6144, 16]⟩
abbrev S4x16x6144 : Shape := ⟨3, ![4, 16, 6144]⟩
abbrev S4x1x6144 : Shape := ⟨3, ![4, 1, 6144]⟩
abbrev S64x1x6144 : Shape := ⟨3, ![64, 1, 6144]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S4x6144x16, .f32⟩
  | .hbm, ⟨18, _⟩ => ⟨S4x16x6144, .f32⟩
  | .hbm, ⟨19, _⟩ => ⟨S4x1x6144, .f32⟩
  | .hbm, ⟨20, _⟩ => ⟨S4x16x6144, .f32⟩
  | .hbm, ⟨21, _⟩ => ⟨S4x16x6144, .f32⟩
  | .hbm, ⟨22, _⟩ => ⟨S64x1x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Proof.Body.lean ====
/- What one grid step of the attention kernel leaves in its output block, as a function of the five blocks it
   reads: the running maximum and the running weighted sum after the cached keys (`start`), after each stretch of
   1024 new keys (`state`), and the quotient of the two halves of the sum's lanes (`out0_A_5_left`, `_right`). -/
module

public import proofs.«01_k».proof.Proof.Gen.AttnIdeal.Value
public import Idealize.ShloMosaic.Lib.VecWindow
public import Idealize.ShloMosaic.Lib.WholeRead
public import Idealize.ShloMosaic.Lib.WritesUnit

@[expose] public section

set_option maxRecDepth 16384

noncomputable section

namespace Cert.AttnProof

open Cert.AttnIdeal Cert.AttnIdeal.Gen Idealize.ShloMosaic Idealize.ShloMosaic.TcCoe Idealize.SL.Sem

variable {F : FTy → Type} [FloatOps F] [Named F]

/-- The running maximum and the running sum after the cached keys. -/
def start (x0 : Vec F S1x4x512x128 .f32) (x3 x4 : Vec F S1x1x512x128 .bf16) :
    FVec F S2048x128 .f32 × FVec F S2048x128 .f32 :=
  (k0_pay11 (k0_pay7 x0 x3 k0_pay3),
    k0_pay10 (k0_pay5 x4) (k0_pay8 x0 x3 k0_pay3) (k0_pay9 x0 x3 k0_pay3) k0_pay4)

/-- The keys (or values) of stretch `k`: rows `1024 k` to `1024 k + 1023`. -/
def stretch (x : Vec F S1x1x4096x128 .bf16) (k : Fin k0_t1_loop.trips) : Vec F S1x1x1024x128 .bf16 :=
  VecWindow.window x (k0_off1 k) S1x1x1024x128.size (k0_off1_inb k)

/-- One stretch's update of the running maximum and sum. -/
def update (q : FVec F S2048x128 .bf16) (k v : Vec F S1x1x1024x128 .bf16)
    (s : FVec F S2048x128 .f32 × FVec F S2048x128 .f32) : FVec F S2048x128 .f32 × FVec F S2048x128 .f32 :=
  (k0_pay15 q k s.1, k0_pay14 q k v s.1 s.2)

/-- The running maximum and sum after the cached keys and `k` stretches of new ones. -/
def state (x0 : Vec F S1x4x512x128 .f32) (x1 x2 : Vec F S1x1x4096x128 .bf16) (x3 x4 : Vec F S1x1x512x128 .bf16) :
    ℕ → FVec F S2048x128 .f32 × FVec F S2048x128 .f32
  | 0 => start x0 x3 x4
  | k + 1 => if h : k < k0_t1_loop.trips then
      update (k0_pay2 x0) (stretch x1 ⟨k, h⟩) (stretch x2 ⟨k, h⟩) (state x0 x1 x2 x3 x4 k)
    else state x0 x1 x2 x3 x4 k

/-- What the loop's pieces leave in the two scratch buffers after `n` trips, when `G10` and `G12` read the
    maximum and the sum before the loop. -/
theorem loop_state (𝒱 : Variants) (c : Dev nD) (bd : Option 𝒱.V) (i : grid0.Coords)
    (arg3 : Memref sig .tc .vmem S1x4x512x128 .f32) (harg3 : arg3.IsWhole)
    (arg4 : Memref sig .tc .vmem S1x1x4096x128 .bf16) (harg4 : arg4.IsWhole)
    (arg5 : Memref sig .tc .vmem S1x1x4096x128 .bf16) (harg5 : arg5.IsWhole)
    (arg6 : Memref sig .tc .vmem S1x1x512x128 .bf16) (harg6 : arg6.IsWhole)
    (arg7 : Memref sig .tc .vmem S1x1x512x128 .bf16) (harg7 : arg7.IsWhole)
    (arg8 : Memref sig .tc .hbm S36864x1024 .bf16) (harg8 : arg8.IsWhole)
    (arg9 : Memref sig .tc .vmem S512x256 .bf16) (harg9 : arg9.IsWhole)
    (arg10 : Memref sig .tc .vmem S2048x128 .f32) (harg10 : arg10.IsWhole)
    (arg11 : Memref sig .tc .vmem S2048x128 .f32) (harg11 : arg11.IsWhole)
    (arg12 : Memref sig .tc .vmem S2048x128 .f32) (harg12 : arg12.IsWhole)
    (x0 : Vec F S1x4x512x128 .f32) (x1 x2 : Vec F S1x1x4096x128 .bf16) (x3 x4 : Vec F S1x1x512x128 .bf16)
    (v17 : FVec F S512x128 .bf16) (v23 v27 : FVec F S2048x128 .f32) (v29 : FVec F S2048x512 .bf16)
    (G10 : BufTy.Contents (Elt F) arg10.view.ty) (G12 : BufTy.Contents (Elt F) arg12.view.ty)
    (h10 : arg10.view.read (Elt F) G10 = (start x0 x3 x4).1) (h12 : arg12.view.read (Elt F) G12 = (start x0 x3 x4).2)
    (n : ℕ) (hn : n ≤ k0_t1_loop.trips) :
    arg10.view.read (Elt F) (arg10.view.writes (Elt F) G10 (pb_k0_t1 (F := F) 𝒱 c bd i arg3 harg3 arg4 harg4 arg5 harg5
        arg6 harg6 arg7 harg7 arg8 harg8 arg9 harg9 arg10 harg10 arg11 harg11 arg12 harg12 (k0_pay2 x0) v17 v23 v27 v29
        (harg4.unread x1) (harg5.unread x2) G10 G12 n).1) = (state x0 x1 x2 x3 x4 n).1
    ∧ arg12.view.read (Elt F) (arg12.view.writes (Elt F) G12 (pb_k0_t1 (F := F) 𝒱 c bd i arg3 harg3 arg4 harg4 arg5 harg5
        arg6 harg6 arg7 harg7 arg8 harg8 arg9 harg9 arg10 harg10 arg11 harg11 arg12 harg12 (k0_pay2 x0) v17 v23 v27 v29
        (harg4.unread x1) (harg5.unread x2) G10 G12 n).2) = (state x0 x1 x2 x3 x4 n).2 := by
  induction n with
  | zero => exact ⟨h10, h12⟩
  | succ n ih =>
    obtain ⟨ih1, ih2⟩ := ih (by omega)
    have hs := pb_k0_t1_succ (F := F) 𝒱 c bd i arg3 harg3 arg4 harg4 arg5 harg5
        arg6 harg6 arg7 harg7 arg8 harg8 arg9 harg9 arg10 harg10 arg11 harg11 arg12 harg12 (k0_pay2 x0) v17 v23 v27 v29
        (harg4.unread x1) (harg5.unread x2) G10 G12 ⟨n, by omega⟩
    rw [show n + 1 = (⟨n, by omega⟩ : Fin k0_t1_loop.trips).val + 1 from rfl, hs]
    simp only [state, dif_pos (show n < k0_t1_loop.trips by omega)]
    generalize hP : pb_k0_t1 (F := F) 𝒱 c bd i arg3 harg3 arg4 harg4 arg5 harg5
        arg6 harg6 arg7 harg7 arg8 harg8 arg9 harg9 arg10 harg10 arg11 harg11 arg12 harg12 (k0_pay2 x0) v17 v23 v27 v29
        (harg4.unread x1) (harg5.unread x2) G10 G12 n = P at ih1 ih2 ⊢
    unfold trip_k0_t1
    dsimp only [List.cons_append, List.nil_append]
    have e4 := View.readAt_unit (Val := Elt F) arg4.view (harg4.unread x1) (k0_off1_inb ⟨n, by omega⟩) rfl (k0_off1_inb ⟨n, by omega⟩)
    have e5 := View.readAt_unit (Val := Elt F) arg5.view (harg5.unread x2) (k0_off1_inb ⟨n, by omega⟩) rfl (k0_off1_inb ⟨n, by omega⟩)
    rw [harg4.read_unread] at e4
    rw [harg5.read_unread] at e5
    have e10 : View.readAt (Elt F) arg10.view (Rect.unit ![0, 0] ![2048, 128] inb_S2048x128_S2048x128_0_0).toLoadRect
        (arg10.view.writes (Elt F) G10 P.1) = (state x0 x1 x2 x3 x4 n).1 := by
      rw [← ih1]; exact View.readAt_full arg10.view _ inb_S2048x128_S2048x128_0_0
    have e12 : View.readAt (Elt F) arg12.view (Rect.unit ![0, 0] ![2048, 128] inb_S2048x128_S2048x128_0_0).toLoadRect
        (arg12.view.writes (Elt F) G12 P.2) = (state x0 x1 x2 x3 x4 n).2 := by
      rw [← ih2]; exact View.readAt_full arg12.view _ inb_S2048x128_S2048x128_0_0
    constructor
    · refine (View.read_writes_full arg10.view G10 inb_S2048x128_S2048x128_0_0 _ P.1).trans ?_
      exact congr (congrArg (k0_pay15 (k0_pay2 x0)) e4) e10
    · refine (View.read_writes_full arg12.view G12 inb_S2048x128_S2048x128_0_0 _ P.2).trans ?_
      exact congr (congr (congr (congrArg (k0_pay14 (k0_pay2 x0)) e4) e5) e10) e12

section
variable (c : Dev nD) (i : grid0.Coords) (arg3 : Memref sig .tc .vmem S1x4x512x128 .f32) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x512x128 .bf16) (harg6 : arg6.IsWhole) (arg7 : Memref sig .tc .vmem S1x1x512x128 .bf16) (harg7 : arg7.IsWhole) (arg9 : Memref sig .tc .vmem S512x256 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole)
    (x0 : Vec F S1x4x512x128 .f32) (x1 : Vec F S1x1x4096x128 .bf16) (x2 : Vec F S1x1x4096x128 .bf16) (x3 : Vec F S1x1x512x128 .bf16) (x4 : Vec F S1x1x512x128 .bf16)

/-- The sum's scratch buffer after the loop reads the state after all the trips. -/
theorem final_read : arg12.view.read (Elt F) (arg12.view.writes (Elt F) arg12.view.junk
      ((pb_k0_t1 Variants.none c none i arg3 harg3 arg4 harg4 arg5 harg5 arg6 harg6 arg7 harg7
                  (Memref.whole main_arg5) (Memref.isWhole_whole _) arg9 harg9 arg10 harg10 arg11 harg11 arg12 harg12
                  (kernelRun0_A.sl.r c arg3 harg3 x0) (kernelRun0_A.sl.r_1 c arg7 harg7 x4)
                  (kernelRun0_A.sl.r_2 c arg3 harg3 arg6 harg6 arg10 x0 x3)
                  (kernelRun0_A.sl.r_3 c arg3 harg3 arg6 harg6 arg10 x0 x3)
                  (kernelRun0_A.sl.r_4 c arg3 harg3 arg6 harg6 arg10 x0 x3) (harg4.unread x1) (harg5.unread x2)
                  (arg10.view.writes (Elt F) arg10.view.junk
                    (kernelRun0_A.sl.HS0_2 c arg3 harg3 arg6 harg6 arg10 x0 x3))
                  (arg12.view.writes (Elt F) arg12.view.junk
                    (kernelRun0_A.sl.HS2_2 c arg3 harg3 arg6 harg6 arg7 harg7 arg10 arg12 x0 x3 x4))
                  (Scf.trips k0_t1_loop.lb k0_t1_loop.ub k0_t1_loop.st)).2 ++
              kernelRun0_A.sl.HS2_2 c arg3 harg3 arg6 harg6 arg7 harg7 arg10 arg12 x0 x3 x4))
    = (state x0 x1 x2 x3 x4 k0_t1_loop.trips).2 := by
  have a3 : View.readAt (Elt F) arg3.view (Rect.unit ![0, 0, 0, 0] S1x4x512x128.size inb_S1x4x512x128_S1x4x512x128_0_0_0_0).toLoadRect (harg3.unread x0) = x0 := by
    rw [View.readAt_full, harg3.read_unread]
  rw [View.writes_append]
  have a6 : View.readAt (Elt F) arg6.view (Rect.unit ![0, 0, 0, 0] S1x1x512x128.size inb_S1x1x512x128_S1x1x512x128_0_0_0_0).toLoadRect (harg6.unread x3) = x3 := by
    rw [View.readAt_full, harg6.read_unread]
  have a7 : View.readAt (Elt F) arg7.view (Rect.unit ![0, 0, 0, 0] S1x1x512x128.size inb_S1x1x512x128_S1x1x512x128_0_0_0_0).toLoadRect (harg7.unread x4) = x4 := by
    rw [View.readAt_full, harg7.read_unread]
  have hr : kernelRun0_A.sl.r c arg3 harg3 x0 = k0_pay2 x0 := by
    unfold kernelRun0_A.sl.r
    rw [a3]
  rw [hr]
  refine (loop_state (F := F) Variants.none c none i arg3 harg3 arg4 harg4 arg5 harg5 arg6 harg6 arg7 harg7
    (Memref.whole main_arg5) (Memref.isWhole_whole _) arg9 harg9 arg10 harg10 arg11 harg11 arg12 harg12 x0 x1 x2 x3 x4 _ _ _ _ _ _ ?_ ?_ _ (le_refl _)).2
  · unfold kernelRun0_A.sl.HS0_2
    refine (View.read_writes_full arg10.view _ inb_S2048x128_S2048x128_0_0 _ _).trans ?_
    unfold kernelRun0_A.sl.r_2 kernelRun0_A.sl.v19
    rw [a3, a6]
    exact congrArg (fun v => k0_pay11 (k0_pay7 x0 x3 v)) (View.readCov_full arg10.view inb_S2048x128_S2048x128_0_0 inb_S2048x128_S2048x128_0_0 _ [])
  · unfold kernelRun0_A.sl.HS2_2
    refine (View.read_writes_full arg12.view _ inb_S2048x128_S2048x128_0_0 _ _).trans ?_
    unfold kernelRun0_A.sl.r_1 kernelRun0_A.sl.r_3 kernelRun0_A.sl.r_4 kernelRun0_A.sl.v30 kernelRun0_A.sl.v19 kernelRun0_A.sl.HS2_1
    rw [a3, a6, a7, View.readCov_full arg12.view inb_S2048x128_S2048x128_0_0 inb_S2048x128_S2048x128_0_0 _ []]
    exact congrArg (fun v => k0_pay10 (k0_pay5 x4) (k0_pay8 x0 x3 v) (k0_pay9 x0 x3 v) k0_pay4) (View.readCov_full arg10.view inb_S2048x128_S2048x128_0_0 inb_S2048x128_S2048x128_0_0 _ [])

/-- Rows `o` to `o + 511` of a sum over 2048 rows. -/
def quarter (s : FVec F S2048x128 .f32) (o : ℕ) (inb : ∀ a, (![o, 0] : Fin 2 → ℕ) a + S512x128.size a ≤ S2048x128.size a) :
    FVec F S512x128 .f32 :=
  VecWindow.window s ![o, 0] S512x128.size inb

/-- The output block's left half: the quotients of heads 0 and 1. -/
def leftHalf (s : FVec F S2048x128 .f32) : FVec F S512x128 .bf16 :=
  k0_pay16 (quarter s 0 inb_S2048x128_S512x128_0_0) (quarter s 512 inb_S2048x128_S512x128_512_0)

/-- The output block's right half: the quotients of heads 2 and 3. -/
def rightHalf (s : FVec F S2048x128 .f32) : FVec F S512x128 .bf16 :=
  k0_pay1 k0_pay17 (k0_pay18 (quarter s 1024 inb_S2048x128_S512x128_1024_0)) (quarter s 1536 inb_S2048x128_S512x128_1536_0) 64#32

/-- The pieces the body leaves in the output block, in the state's terms. -/
theorem run_pieces : (kernelRun0_A (F := F) c i arg3 harg3 arg4 harg4 arg5 harg5 arg6 harg6 arg7 harg7 arg9 harg9 arg10 harg10 arg11 harg11 arg12 harg12 x0 x1 x2 x3 x4).1
    = [⟨Rect.unit (s := S512x256) ![0, 128] S512x128.size inb_S512x256_S512x128_0_128, rightHalf (state x0 x1 x2 x3 x4 k0_t1_loop.trips).2⟩,
       ⟨Rect.unit (s := S512x256) ![0, 0] S512x128.size inb_S512x256_S512x128_0_0, leftHalf (state x0 x1 x2 x3 x4 k0_t1_loop.trips).2⟩] := by
  have key := final_read (F := F) c i arg3 harg3 arg4 harg4 arg5 harg5 arg6 harg6 arg7 harg7 arg9 harg9 arg10 harg10 arg11 harg11 arg12 harg12 x0 x1 x2 x3 x4
  have q0 := congrArg (fun s => quarter s 0 inb_S2048x128_S512x128_0_0) key
  have q1 := congrArg (fun s => quarter s 512 inb_S2048x128_S512x128_512_0) key
  have q2 := congrArg (fun s => quarter s 1024 inb_S2048x128_S512x128_1024_0) key
  have q3 := congrArg (fun s => quarter s 1536 inb_S2048x128_S512x128_1536_0) key
  unfold kernelRun0_A
  dsimp only
  unfold kernelRun0_A.sl.v44 kernelRun0_A.sl.v47 kernelRun0_A.sl.r_5 kernelRun0_A.sl.v56 kernelRun0_A.sl.v59
  unfold rightHalf leftHalf
  rw [← q0, ← q1, ← q2, ← q3]
  rfl

variable (j : S512x256.Idx) (y : S512x128.Idx)

/-- A column of the left half of the output block. -/
theorem out_left (h0 : (j 0).val = (y 0).val) (h1 : (j 1).val = (y 1).val) :
    out0_A_5 (F := F) c i arg3 harg3 arg4 harg4 arg5 harg5 arg6 harg6 arg7 harg7 arg9 harg9 arg10 harg10 arg11 harg11 arg12 harg12 x0 x1 x2 x3 x4 j
      = leftHalf (state x0 x1 x2 x3 x4 k0_t1_loop.trips).2 y := by
  unfold out0_A_5
  rw [run_pieces]
  have hy : (y 1).val < 128 := (y 1).isLt
  refine (View.read_writes_cons_unit_of_not_mem VO0_5 _ inb_S512x256_S512x128_0_128 _ _ j rfl (1 : Fin 2) (Or.inl ?_)).trans ?_
  · show (j 1).val < 128
    omega
  · exact View.read_writes_cons_unit_of_mem VO0_5 _ inb_S512x256_S512x128_0_0 _ _ j y rfl
      (Fin.forall_fin_two.mpr ⟨by rw [h0]; exact (Nat.zero_add _).symm, by rw [h1]; exact (Nat.zero_add _).symm⟩)

/-- A column of the right half of the output block. -/
theorem out_right (h0 : (j 0).val = (y 0).val) (h1 : (j 1).val = 128 + (y 1).val) :
    out0_A_5 (F := F) c i arg3 harg3 arg4 harg4 arg5 harg5 arg6 harg6 arg7 harg7 arg9 harg9 arg10 harg10 arg11 harg11 arg12 harg12 x0 x1 x2 x3 x4 j
      = rightHalf (state x0 x1 x2 x3 x4 k0_t1_loop.trips).2 y := by
  unfold out0_A_5
  rw [run_pieces]
  exact View.read_writes_cons_unit_of_mem VO0_5 _ inb_S512x256_S512x128_0_128 _ _ j y rfl
      (Fin.forall_fin_two.mpr ⟨by rw [h0]; exact (Nat.zero_add _).symm, h1⟩)

end

end Cert.AttnProof

end
-- ==== Proof.Online.lean ====
/- The arithmetic of a softmax taken a stretch of keys at a time: weights to the base two kept relative to a running
   maximum, rescaled when the maximum moves, and divided by their own sum at the end, are the softmax's weights. The
   values weighted are any extended reals; the scores are real. -/
module

public import Idealize.ShloMosaic.PureOps.Ideal.Laws
public import Mathlib.Data.EReal.Operations
public import Mathlib.Data.EReal.Inv
public import Mathlib.Analysis.SpecialFunctions.Pow.Real

@[expose] public section

noncomputable section

namespace Cert.AttnProof

open Idealize.ShloMosaic

/-- Two to a real power. -/
def two (a : ℝ) : ℝ := Real.rpow 2 a

theorem two_pos (a : ℝ) : 0 < two a := Real.rpow_pos_of_pos (by norm_num) a

theorem two_add (a b : ℝ) : two (a + b) = two a * two b := Real.rpow_add (by norm_num) a b

theorem two_eq_exp (a : ℝ) : two a = Real.exp (Real.log 2 * a) := Real.rpow_def_of_pos (by norm_num) a

/-- A nonnegative real factor goes under a sum of extended reals. -/
theorem coe_mul_sum {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (EReal.coe_nonneg.mpr hr) (EReal.coe_ne_top r), ih]

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum over the first `n` keys of the values at the weights relative to `m`. -/
def weighted (x : ℕ → ℝ) (v : ℕ → EReal) (n : ℕ) (m : ℝ) : EReal := ∑ s ∈ Finset.range n, (two (x s - m) : EReal) * v s

/-- A sum rescaled to a new maximum and continued over the next `N` keys is the sum over all of them. -/
theorem weighted_step (x : ℕ → ℝ) (v : ℕ → EReal) (n N : ℕ) (m m' : ℝ) :
    (two (m - m') : EReal) * weighted x v n m + ∑ t : Fin N, (two (x (n + t.val) - m') : EReal) * v (n + t.val)
      = weighted x v (n + N) m' := by
  unfold weighted
  rw [Finset.sum_range_add, coe_mul_sum _ _ (two_pos _).le, Finset.sum_range (fun t => (two (x (n + t) - m') : EReal) * v (n + t))]
  refine congrArg (· + _) (Finset.sum_congr rfl fun s _ => ?_)
  rw [← mul_assoc, ← EReal.coe_mul, ← two_add]
  congr 3
  ring

/-- The first `N` keys' sum, when nothing was summed before. -/
theorem weighted_start (x : ℕ → ℝ) (v : ℕ → EReal) (N : ℕ) (m : ℝ) :
    ∑ t : Fin N, (two (x t.val - m) : EReal) * v t.val = weighted x v N m :=
  (Finset.sum_range (fun t => (two (x t - m) : EReal) * v t)).symm

/-- The weights' own sum is a positive real. -/
theorem weighted_one (x : ℕ → ℝ) (n : ℕ) (m : ℝ) :
    weighted x (fun _ => 1) n m = ((∑ s ∈ Finset.range n, two (x s - m) : ℝ) : EReal) := by
  unfold weighted
  rw [coe_sum]
  exact Finset.sum_congr rfl fun s _ => mul_one _

/-- The quotient of the weighted sum by the weights' sum is the softmax's: the same for any shift `M` of the scores. -/
theorem weighted_div (x y : ℕ → ℝ) (v : ℕ → EReal) (n : ℕ) (hn : 0 < n) (m M : ℝ)
    (hxy : ∀ s < n, Real.log 2 * x s = y s) :
    Ideal.div (weighted x v n m) (weighted x (fun _ => 1) n m)
      = ∑ s ∈ Finset.range n, v s * ((Real.exp (y s - M) * (1 / ∑ t ∈ Finset.range n, Real.exp (y t - M)) : ℝ) : EReal) := by
  have hw : ∀ s ∈ Finset.range n, two (x s - m) = Real.exp (M - Real.log 2 * m) * Real.exp (y s - M) := fun s hs => by
    rw [two_eq_exp, ← Real.exp_add, ← hxy s (Finset.mem_range.mp hs)]
    congr 1
    ring
  have hne : (Finset.range n).Nonempty := ⟨0, Finset.mem_range.mpr hn⟩
  have hpos : 0 < ∑ s ∈ Finset.range n, two (x s - m) := Finset.sum_pos (fun s _ => two_pos _) hne
  have hpos' : 0 < ∑ t ∈ Finset.range n, Real.exp (y t - M) := Finset.sum_pos (fun s _ => Real.exp_pos _) hne
  rw [weighted_one, Ideal.div_coe hpos.ne', mul_comm]
  unfold weighted
  rw [coe_mul_sum _ _ (by positivity)]
  refine Finset.sum_congr rfl fun s hs => ?_
  rw [← mul_assoc, ← EReal.coe_mul, mul_comm]
  congr 2
  rw [hw s hs, Finset.sum_congr rfl hw, ← Finset.mul_sum]
  have := (Real.exp_pos (M - Real.log 2 * m)).ne'
  field_simp

end Cert.AttnProof

end
-- ==== Proof.Elem.lean ====
/- The attention kernel's vector operations over the ideal values, entry by entry: the scaled queries, the scores of a
   stretch of keys, the running maximum (a real number, the same in every lane, once the scores are real) and the
   running sum. -/
module

public import proofs.«01_k».proof.Proof.Gen.AttnIdeal.Skeleton
public import proofs.«01_k».proof.Proof.Online
public import Idealize.ShloMosaic.Lib.Pipeline.Value
public import Idealize.ShloMosaic.Lib.ValueIdx
public import Idealize.ShloMosaic.Lib.ValueLayout
public import Idealize.ShloMosaic.Lib.MatmulPlain
public import Idealize.ShloMosaic.Lib.KernelVsHost
public import Idealize.ShloMosaic.PureOps.IdealRules

@[expose] public section

set_option maxRecDepth 16384

noncomputable section

namespace Cert.AttnProof

open Cert.AttnIdeal Cert.AttnIdeal.Gen Idealize.ShloMosaic Idealize.ShloMosaic.ValueIdx

/-- The factor on the queries: one over the root of the head's width, over the logarithm of two. -/
def factor : ℝ := 8⁻¹ * (Real.log 2)⁻¹

/-- Row `ρ` of the block's queries is query `ρ mod 512` of head `ρ / 512`. -/
theorem pay2_apply (x0 : Vec Ideal S1x4x512x128 .f32) (ρ : Fin 2048) (d : Fin 128) :
    k0_pay2 x0 (ix2 ρ d) = x0 (ix4 (0 : Fin 1) (⟨ρ.val / 512, by omega⟩ : Fin 4) (⟨ρ.val % 512, by omega⟩ : Fin 512) d) * (factor : EReal) := by
  have e : k0_pay2 x0 (ix2 ρ d) = shapeCast S2048x128 (shapeCast S4x512x128 x0 shapeCasts_S1x4x512x128_S4x512x128) shapeCasts_S4x512x128_S2048x128 (ix2 ρ d)
      * (Named.named (F := Ideal) (φ := .f32) κ "scale" 0x3E38AA3B#32) := rfl
  rw [e, IdealRules.named_const.ideal_named_scalar _ _ _ _ rfl]
  refine congrArg (· * (factor : EReal)) ?_
  rw [shapeCast_apply _ shapeCasts_S4x512x128_S2048x128 (ix2 ρ d) (ix3 (⟨ρ.val / 512, by omega⟩ : Fin 4) (⟨ρ.val % 512, by omega⟩ : Fin 512) d) (by
      rw [Shape.rowMajor_val_three, Shape.rowMajor_val_two]
      show (ρ.val / 512 * 512 + ρ.val % 512) * 128 + d.val = ρ.val * 128 + d.val
      omega),
    shapeCast_apply x0 shapeCasts_S1x4x512x128_S4x512x128 (ix3 (⟨ρ.val / 512, by omega⟩ : Fin 4) (⟨ρ.val % 512, by omega⟩ : Fin 512) d)
      (ix4 (0 : Fin 1) (⟨ρ.val / 512, by omega⟩ : Fin 4) (⟨ρ.val % 512, by omega⟩ : Fin 512) d) (by
      rw [Shape.rowMajor_val_four, Shape.rowMajor_val_three]
      show ((0 * 4 + ρ.val / 512) * 512 + ρ.val % 512) * 128 + d.val = (ρ.val / 512 * 512 + ρ.val % 512) * 128 + d.val
      omega)]

/-- The scores of the cached keys. -/
theorem pay6_apply (x0 : Vec Ideal S1x4x512x128 .f32) (x3 : Vec Ideal S1x1x512x128 .bf16) (ρ : Fin 2048) (s : Fin 512) :
    k0_pay6 x0 x3 (ix2 ρ s) = ∑ d : Fin 128, k0_pay2 x0 (ix2 ρ d) * x3 (ix4 (0 : Fin 1) (0 : Fin 1) s d) := by
  unfold k0_pay6
  refine (Ideal.matmul_transposedRhs_apply none (k0_pay2 x0) _ _ ρ s).trans ?_
  rw [show (constant S2048x512 FTy.f32 0x00000000#32 : FVec Ideal S2048x512 .f32) (ix2 ρ s) = (0 : EReal) from by
    show Ideal.ofBits .f32 0x00000000#32 = 0
    simp [Ideal.ofBits, Ideal.ieee], zero_add]
  refine Finset.sum_congr rfl fun d _ => congrArg (k0_pay2 x0 (ix2 ρ d) * ·) ?_
  exact shapeCast_apply _ shapeCasts_S1x1x512x128_S512x128 (ix2 s d) (ix4 (0 : Fin 1) (0 : Fin 1) s d) (by
      rw [Shape.rowMajor_val_four, Shape.rowMajor_val_two]
      show ((0 * 1 + 0) * 512 + s.val) * 128 + d.val = s.val * 128 + d.val
      omega)

/-- The scores of a stretch of new keys. -/
theorem pay12_apply (q : FVec Ideal S2048x128 .bf16) (k : Vec Ideal S1x1x1024x128 .bf16) (ρ : Fin 2048) (s : Fin 1024) :
    k0_pay12 q k (ix2 ρ s) = ∑ d : Fin 128, q (ix2 ρ d) * k (ix4 (0 : Fin 1) (0 : Fin 1) s d) := by
  unfold k0_pay12
  refine (Ideal.matmul_transposedRhs_apply none q _ _ ρ s).trans ?_
  rw [show (constant S2048x1024 FTy.f32 0x00000000#32 : FVec Ideal S2048x1024 .f32) (ix2 ρ s) = (0 : EReal) from by
    show Ideal.ofBits .f32 0x00000000#32 = 0
    simp [Ideal.ofBits, Ideal.ieee], zero_add]
  refine Finset.sum_congr rfl fun d _ => congrArg (q (ix2 ρ d) * ·) ?_
  exact shapeCast_apply _ shapeCasts_S1x1x1024x128_S1024x128 (ix2 s d) (ix4 (0 : Fin 1) (0 : Fin 1) s d) (by
      rw [Shape.rowMajor_val_four, Shape.rowMajor_val_two]
      show ((0 * 1 + 0) * 1024 + s.val) * 128 + d.val = s.val * 128 + d.val
      omega)

/-- The larger of finitely many reals, from minus infinity, is a real once there is one. -/
theorem fold_max_real {N : ℕ} (hN : 0 < N) (f : Fin N → EReal) (y : Fin N → ℝ) (h : ∀ s, f s = (y s : EReal)) :
    ∃ r : ℝ, (Finset.univ : Finset (Fin N)).fold max ⊥ f = (r : EReal) := by
  have key : ∀ S : Finset (Fin N), S.fold max ⊥ f = ⊥ ∧ S = ∅ ∨ ∃ r : ℝ, S.fold max ⊥ f = (r : EReal) := fun S => by
    induction S using Finset.induction_on with
    | empty => exact Or.inl ⟨rfl, rfl⟩
    | insert a S ha ih =>
      refine Or.inr ?_
      rw [Finset.fold_insert ha, h a]
      rcases ih with ⟨e, _⟩ | ⟨r, e⟩
      · exact ⟨y a, by rw [e]; exact max_bot_right _⟩
      · exact ⟨max (y a) r, by rw [e]; exact (EReal.coe_strictMono.monotone.map_max).symm⟩
  rcases key Finset.univ with ⟨_, e⟩ | e
  · exact absurd (Finset.mem_univ (⟨0, hN⟩ : Fin N)) (by rw [e]; exact Finset.notMem_empty _)
  · exact e

/-- The running maximum after a stretch: a real, the same in every lane. -/
theorem max_real {N : ℕ} (hN : 0 < N) (sc : FVec Ideal ⟨2, ![2048, N]⟩ .f32) (hR : (⟨2, ![2048, N]⟩ : Shape).Reduces [1] S2048)
    (old : FVec Ideal S2048x128 .f32) (ρ : Fin 2048) (m : ℝ) (hold : ∀ l, old (ix2 ρ l) = (m : EReal))
    (y : Fin N → ℝ) (hy : ∀ s, sc (ix2 ρ s) = (y s : EReal)) :
    ∃ m' : ℝ, ∀ l : Fin 128, maximumf old (broadcastTo S2048x128 (shapeCast S2048x1
      (multiReduction .maximumf [1] S2048 sc 0xFF800000#32 hR (.inl rfl) rfl) shapeCasts_S2048_S2048x1) broadcasts_S2048x1_S2048x128) (ix2 ρ l) = (m' : EReal) := by
  obtain ⟨r, hr⟩ := fold_max_real hN (fun s => sc (ix2 ρ s)) y hy
  refine ⟨max m r, fun l => ?_⟩
  show max (old (ix2 ρ l)) _ = _
  rw [hold l, broadcastTo_apply _ broadcasts_S2048x1_S2048x128 (ix2 ρ l) (ix2 ρ (0 : Fin 1)) (fun a => by
      match a with
      | ⟨0, _⟩ => rfl
      | ⟨1, _⟩ => rfl),
    shapeCast_apply _ shapeCasts_S2048_S2048x1 (ix2 ρ (0 : Fin 1)) (ix1 ρ) (by
      rw [Shape.rowMajor_val_one, Shape.rowMajor_val_two]
      show ρ.val = ρ.val * 1 + 0
      omega)]
  refine (congrArg (max (m : EReal)) ((Ideal.multiReduction_maximumf_single sc 0xFF800000#32 hR (.inl rfl) rfl (ix1 ρ)).trans ?_)).trans (EReal.coe_strictMono.monotone.map_max).symm
  rw [← hr]
  have e0 : FloatOps.ofBits (F := Ideal) .f32 0xFF800000#32 = (⊥ : EReal) := by
    show Ideal.ofBits .f32 0xFF800000#32 = ⊥
    simp [Ideal.ofBits, Ideal.ieee]
  rw [e0]
  refine congrArg (fun g => (Finset.univ : Finset (Fin N)).fold max ⊥ g) (funext fun s => congrArg sc ?_)
  funext c
  apply Fin.ext
  rw [Shape.Reduces.lift_val]
  match c with
  | ⟨0, _⟩ => rfl
  | ⟨1, _⟩ => rfl

/-- The exponential to the base two of a difference of reals. -/
theorem exp2_sub (a b : ℝ) : Ideal.exp2 ((a : EReal) - (b : EReal)) = (two (a - b) : EReal) := by
  rw [← EReal.coe_sub]
  rfl

/-- Four copies side by side of a vector whose row is one value: that value. -/
theorem cat4_apply (x : FVec Ideal S2048x128 .f32) (ρ : Fin 2048) (s : Fin 512) (m : EReal) (h : ∀ l, x (ix2 ρ l) = m) :
    concatenate S2048x512 1 [⟨S2048x128, x⟩, ⟨S2048x128, x⟩, ⟨S2048x128, x⟩, ⟨S2048x128, x⟩]
      concatenates_S2048x128_S2048x128_S2048x128_S2048x128_S2048x512_d1 (ix2 ρ s) = m := by
  refine (concatenate_replicate_apply (1 : Fin S2048x512.rank) 4 x
    concatenates_S2048x128_S2048x128_S2048x128_S2048x128_S2048x512_d1 rfl (ix2 ρ s) (ix2 ρ (⟨s.val % 128, by omega⟩ : Fin 128)) rfl (fun b hb => ?_)).trans (h _)
  match b with
  | ⟨0, _⟩ => rfl
  | ⟨1, _⟩ => exact absurd rfl hb

/-- Eight copies side by side of a vector whose row is one value: that value. -/
theorem cat8_apply (x : FVec Ideal S2048x128 .f32) (ρ : Fin 2048) (s : Fin 1024) (m : EReal) (h : ∀ l, x (ix2 ρ l) = m) :
    concatenate S2048x1024 1 [⟨S2048x128, x⟩, ⟨S2048x128, x⟩, ⟨S2048x128, x⟩, ⟨S2048x128, x⟩, ⟨S2048x128, x⟩, ⟨S2048x128, x⟩, ⟨S2048x128, x⟩, ⟨S2048x128, x⟩]
      concatenates_S2048x128_S2048x128_S2048x128_S2048x128_S2048x128_S2048x128_S2048x128_S2048x128_S2048x1024_d1 (ix2 ρ s) = m := by
  refine (concatenate_replicate_apply (1 : Fin S2048x1024.rank) 8 x
    concatenates_S2048x128_S2048x128_S2048x128_S2048x128_S2048x128_S2048x128_S2048x128_S2048x128_S2048x1024_d1 rfl (ix2 ρ s) (ix2 ρ (⟨s.val % 128, by omega⟩ : Fin 128)) rfl (fun b hb => ?_)).trans (h _)
  match b with
  | ⟨0, _⟩ => rfl
  | ⟨1, _⟩ => exact absurd rfl hb

/-- A product of a row of weights with a column of values, added to an accumulator of zero: no accumulator. -/
theorem zero_acc (s : Shape) (j : s.Idx) : (constant s FTy.f32 0x00000000#32 : FVec Ideal s .f32) j = (0 : EReal) := by
  show Ideal.ofBits .f32 0x00000000#32 = 0
  simp [Ideal.ofBits, Ideal.ieee]

/-- The floor the running maximum starts from is a real number. -/
theorem floor_real : ∃ f : ℝ, Ideal.ofBits .f32 0xF149F2CA#32 = (f : EReal) := by
  show ∃ f : ℝ, Ideal.ieee 8 23 0xF149F2CA#32 = (f : EReal)
  unfold Ideal.ieee
  dsimp only
  rw [if_neg (by decide), if_neg (by decide)]
  exact ⟨_, rfl⟩

/-- The start: from the floor of the scores, the cached keys' maximum and sum. -/
theorem start_real (x0 : Vec Ideal S1x4x512x128 .f32) (x3 x4 : Vec Ideal S1x1x512x128 .bf16) (ρ : Fin 2048)
    (y : Fin 512 → ℝ) (hy : ∀ s, k0_pay6 x0 x3 (ix2 ρ s) = (y s : EReal)) :
    ∃ m : ℝ, (∀ l : Fin 128, k0_pay11 (k0_pay7 x0 x3 (k0_pay3 (F := Ideal))) (ix2 ρ l) = (m : EReal))
      ∧ ∀ l : Fin 128, k0_pay10 (F := Ideal) (k0_pay5 x4) (k0_pay8 x0 x3 (k0_pay3 (F := Ideal))) (k0_pay9 x0 x3 (k0_pay3 (F := Ideal))) (k0_pay4 (F := Ideal)) (ix2 ρ l)
        = ∑ t : Fin 512, (two (y t - m) : EReal) * x4 (ix4 (0 : Fin 1) (0 : Fin 1) t l) := by
  have hfl : ∃ f : ℝ, ∀ l : Fin 128, (k0_pay3 (F := Ideal)) (ix2 ρ l) = (f : EReal) := by
    obtain ⟨f, hf⟩ := floor_real
    refine ⟨f, fun l => ?_⟩
    unfold k0_pay3
    rw [shapeCast_self]
    exact hf
  obtain ⟨f, hf⟩ := hfl
  obtain ⟨m, hm⟩ := max_real (by norm_num) (k0_pay6 x0 x3) reduces_S2048x512_S2048 (k0_pay3 (F := Ideal)) ρ f hf y hy
  have hm' : ∀ l : Fin 128, k0_pay7 x0 x3 (k0_pay3 (F := Ideal)) (ix2 ρ l) = (m : EReal) := hm
  refine ⟨m, fun l => ?_, fun l => ?_⟩
  · unfold k0_pay11
    rw [shapeCast_self]
    exact hm' l
  · unfold k0_pay10
    rw [shapeCast_self]
    show k0_pay8 x0 x3 (k0_pay3 (F := Ideal)) (ix2 ρ l) * (k0_pay4 (F := Ideal)) (ix2 ρ l) + _ = _
    have h4 : (k0_pay4 (F := Ideal)) (ix2 ρ l) = (0 : EReal) := by
      unfold k0_pay4
      rw [shapeCast_self]
      show Ideal.ofBits .f32 0x00000000#32 = 0
      simp [Ideal.ofBits, Ideal.ieee]
    rw [h4, mul_zero, zero_add]
    refine (Ideal.matmul_plain_apply none (k0_pay9 x0 x3 (k0_pay3 (F := Ideal))) (k0_pay5 x4) _ ρ l).trans ?_
    rw [zero_acc, zero_add]
    refine Finset.sum_congr rfl fun t _ => ?_
    refine congrArg₂ (fun a b : EReal => a * b) ?_ ?_
    · unfold k0_pay9
      refine (show _ = Ideal.exp2 (k0_pay6 x0 x3 (ix2 ρ t) - concatenate S2048x512 1 [⟨S2048x128, k0_pay7 x0 x3 (k0_pay3 (F := Ideal))⟩, ⟨S2048x128, k0_pay7 x0 x3 (k0_pay3 (F := Ideal))⟩, ⟨S2048x128, k0_pay7 x0 x3 (k0_pay3 (F := Ideal))⟩, ⟨S2048x128, k0_pay7 x0 x3 (k0_pay3 (F := Ideal))⟩]
        concatenates_S2048x128_S2048x128_S2048x128_S2048x128_S2048x512_d1 (ix2 ρ t)) from rfl).trans ?_
      rw [hy t, cat4_apply _ ρ t m hm', exp2_sub]
    · unfold k0_pay5
      exact shapeCast_apply _ shapeCasts_S1x1x512x128_S512x128 (ix2 t l) (ix4 (0 : Fin 1) (0 : Fin 1) t l) (by
        rw [Shape.rowMajor_val_four, Shape.rowMajor_val_two]
        show ((0 * 1 + 0) * 512 + t.val) * 128 + l.val = t.val * 128 + l.val
        omega)

/-- A stretch: the maximum stays real and the sum is rescaled to it and continued. -/
theorem update_real (q : FVec Ideal S2048x128 .bf16) (k v : Vec Ideal S1x1x1024x128 .bf16) (M A : FVec Ideal S2048x128 .f32)
    (ρ : Fin 2048) (m : ℝ) (hM : ∀ l, M (ix2 ρ l) = (m : EReal))
    (y : Fin 1024 → ℝ) (hy : ∀ s, k0_pay12 q k (ix2 ρ s) = (y s : EReal)) :
    ∃ m' : ℝ, (∀ l : Fin 128, k0_pay15 q k M (ix2 ρ l) = (m' : EReal))
      ∧ ∀ l : Fin 128, k0_pay14 q k v M A (ix2 ρ l)
        = (two (m - m') : EReal) * A (ix2 ρ l) + ∑ t : Fin 1024, (two (y t - m') : EReal) * v (ix4 (0 : Fin 1) (0 : Fin 1) t l) := by
  obtain ⟨m', hm⟩ := max_real (by norm_num) (k0_pay12 q k) reduces_S2048x1024_S2048 M ρ m hM y hy
  have hm' : ∀ l : Fin 128, k0_pay13 q k M (ix2 ρ l) = (m' : EReal) := hm
  refine ⟨m', fun l => ?_, fun l => ?_⟩
  · unfold k0_pay15
    rw [shapeCast_self]
    exact hm' l
  · unfold k0_pay14
    rw [shapeCast_self]
    refine congrArg₂ (fun a b : EReal => a + b) (congrArg (fun a : EReal => a * A (ix2 ρ l)) ?_) ?_
    · show Ideal.exp2 (M (ix2 ρ l) - k0_pay13 q k M (ix2 ρ l)) = _
      rw [hM l, hm' l, exp2_sub]
    · refine (Ideal.matmul_plain_apply none _ _ _ ρ l).trans ?_
      rw [zero_acc, zero_add]
      refine Finset.sum_congr rfl fun t _ => ?_
      refine congrArg₂ (fun a b : EReal => a * b) ?_ ?_
      · refine (show _ = Ideal.exp2 (k0_pay12 q k (ix2 ρ t) - concatenate S2048x1024 1 [⟨S2048x128, k0_pay13 q k M⟩, ⟨S2048x128, k0_pay13 q k M⟩, ⟨S2048x128, k0_pay13 q k M⟩, ⟨S2048x128, k0_pay13 q k M⟩, ⟨S2048x128, k0_pay13 q k M⟩, ⟨S2048x128, k0_pay13 q k M⟩, ⟨S2048x128, k0_pay13 q k M⟩, ⟨S2048x128, k0_pay13 q k M⟩]
          concatenates_S2048x128_S2048x128_S2048x128_S2048x128_S2048x128_S2048x128_S2048x128_S2048x128_S2048x1024_d1 (ix2 ρ t)) from rfl).trans ?_
        rw [hy t, cat8_apply _ ρ t m' hm', exp2_sub]
      · exact shapeCast_apply _ shapeCasts_S1x1x1024x128_S1024x128 (ix2 t l) (ix4 (0 : Fin 1) (0 : Fin 1) t l) (by
          rw [Shape.rowMajor_val_four, Shape.rowMajor_val_two]
          show ((0 * 1 + 0) * 1024 + t.val) * 128 + l.val = t.val * 128 + l.val
          omega)

end Cert.AttnProof

end
-- ==== Proof.Block.lean ====
/- One grid step's output block over the ideal values: entry by entry, the softmax-weighted mean of the values of its
   4608 keys, when its scores are real and the values' upper lanes are ones. -/
module

public import proofs.«01_k».proof.Proof.Body
public import proofs.«01_k».proof.Proof.Elem

@[expose] public section

set_option maxRecDepth 16384

noncomputable section

namespace Cert.AttnProof

open Cert.AttnIdeal Cert.AttnIdeal.Gen Idealize.ShloMosaic Idealize.ShloMosaic.ValueIdx

theorem trips_eq : k0_t1_loop.trips = 4 := by decide +kernel

/-- Stretch `k` starts at key `1024 k`. -/
theorem off_eq : ∀ k : Fin k0_t1_loop.trips, k0_off1 k = ![0, 0, 1024 * k.val, 0] := by
  have h : ∀ k : Fin k0_t1_loop.trips, k0_off1 k 0 = 0 ∧ k0_off1 k 1 = 0 ∧ k0_off1 k 2 = 1024 * k.val ∧ k0_off1 k 3 = 0 := by decide +kernel
  intro k
  funext a
  match a with
  | ⟨0, _⟩ => exact (h k).1
  | ⟨1, _⟩ => exact (h k).2.1
  | ⟨2, _⟩ => exact (h k).2.2.1
  | ⟨3, _⟩ => exact (h k).2.2.2

/-- Row `t` of stretch `k` is row `1024 k + t` of all of them. -/
theorem stretch_apply (x : Vec Ideal S1x1x4096x128 .bf16) (k : Fin k0_t1_loop.trips) (t : Fin 1024) (l : Fin 128)
    (h : 1024 * k.val + t.val < 4096) :
    stretch x k (ix4 (0 : Fin 1) (0 : Fin 1) t l) = x (ix4 (0 : Fin 1) (0 : Fin 1) (⟨1024 * k.val + t.val, h⟩ : Fin 4096) l) := by
  unfold stretch VecWindow.window
  refine congrArg x (funext fun a => Fin.ext ?_)
  refine (congrArg (fun o : Fin 4 → ℕ => o a + 1 * (ix4 (0 : Fin 1) (0 : Fin 1) t l a).val) (off_eq k)).trans ?_
  rw [Nat.one_mul]
  match a with
  | ⟨0, _⟩ => rfl
  | ⟨1, _⟩ => rfl
  | ⟨2, _⟩ => rfl
  | ⟨3, _⟩ => exact Nat.zero_add _

/-- Row `s` of the cached rows followed by the new ones, lane `l`; zero past the last. -/
def row (c : Vec Ideal S1x1x512x128 .bf16) (x : Vec Ideal S1x1x4096x128 .bf16) (l : Fin 128) (s : ℕ) : EReal :=
  if h : s < 512 then c (ix4 (0 : Fin 1) (0 : Fin 1) (⟨s, h⟩ : Fin 512) l)
  else if h' : s - 512 < 4096 then x (ix4 (0 : Fin 1) (0 : Fin 1) (⟨s - 512, h'⟩ : Fin 4096) l) else 0

theorem row_cached (c : Vec Ideal S1x1x512x128 .bf16) (x : Vec Ideal S1x1x4096x128 .bf16) (l : Fin 128) (s : Fin 512) :
    row c x l s.val = c (ix4 (0 : Fin 1) (0 : Fin 1) s l) := by
  unfold row
  rw [dif_pos s.isLt]

theorem row_stretch (c : Vec Ideal S1x1x512x128 .bf16) (x : Vec Ideal S1x1x4096x128 .bf16) (l : Fin 128)
    (k : Fin k0_t1_loop.trips) (t : Fin 1024) :
    row c x l (512 + 1024 * k.val + t.val) = stretch x k (ix4 (0 : Fin 1) (0 : Fin 1) t l) := by
  have hk : k.val < 4 := trips_eq ▸ k.isLt
  have h : 1024 * k.val + t.val < 4096 := by omega
  rw [stretch_apply x k t l h]
  unfold row
  rw [dif_neg (by omega), dif_pos (by omega)]
  refine congrArg x (congrArg (fun i => ix4 (0 : Fin 1) (0 : Fin 1) i l) (Fin.ext ?_))
  show 512 + 1024 * k.val + t.val - 512 = 1024 * k.val + t.val
  omega

variable (x0 : Vec Ideal S1x4x512x128 .f32) (x1 x2 : Vec Ideal S1x1x4096x128 .bf16) (x3 x4 : Vec Ideal S1x1x512x128 .bf16)

/-- The score of row `ρ` and key `s`, to the base two. -/
def score (ρ : Fin 2048) (s : ℕ) : EReal := ∑ d : Fin 128, k0_pay2 x0 (ix2 ρ d) * row x3 x1 d s

/-- After the cached keys and `n` stretches: a real maximum and the weighted sums relative to it. -/
theorem state_real (ρ : Fin 2048) (x : ℕ → ℝ) (hx : ∀ s < 4608, score x0 x1 x3 ρ s = (x s : EReal)) (n : ℕ) (hn : n ≤ k0_t1_loop.trips) :
    ∃ m : ℝ, (∀ l : Fin 128, (state x0 x1 x2 x3 x4 n).1 (ix2 ρ l) = (m : EReal))
      ∧ ∀ l : Fin 128, (state x0 x1 x2 x3 x4 n).2 (ix2 ρ l) = weighted x (row x4 x2 l) (512 + 1024 * n) m := by
  induction n with
  | zero =>
    obtain ⟨m, h1, h2⟩ := start_real x0 x3 x4 ρ (fun s => x s.val) (fun s => by
      rw [pay6_apply, ← hx s.val (by omega)]
      exact Finset.sum_congr rfl fun d _ => congrArg (fun a : EReal => k0_pay2 x0 (ix2 ρ d) * a) (row_cached x3 x1 d s).symm)
    refine ⟨m, h1, fun l => (h2 l).trans ?_⟩
    rw [show 512 + 1024 * 0 = 512 from rfl, ← weighted_start]
    exact Finset.sum_congr rfl fun t _ => congrArg (fun a : EReal => (two (x t.val - m) : EReal) * a) (row_cached x4 x2 l t).symm
  | succ n ih =>
    obtain ⟨m, h1, h2⟩ := ih (by omega)
    have hn4 : n < 4 := by rw [trips_eq] at hn; omega
    obtain ⟨m', h1', h2'⟩ := update_real (k0_pay2 x0) (stretch x1 ⟨n, by omega⟩) (stretch x2 ⟨n, by omega⟩)
      (state x0 x1 x2 x3 x4 n).1 (state x0 x1 x2 x3 x4 n).2 ρ m h1 (fun t => x (512 + 1024 * n + t.val)) (fun t => by
        rw [pay12_apply, ← hx (512 + 1024 * n + t.val) (by omega)]
        exact Finset.sum_congr rfl fun d _ => congrArg (fun a : EReal => k0_pay2 x0 (ix2 ρ d) * a) (row_stretch x3 x1 d ⟨n, by omega⟩ t).symm)
    have es : state x0 x1 x2 x3 x4 (n + 1) = update (k0_pay2 x0) (stretch x1 ⟨n, by omega⟩) (stretch x2 ⟨n, by omega⟩) (state x0 x1 x2 x3 x4 n) :=
      dif_pos (show n < k0_t1_loop.trips by omega)
    rw [es]
    refine ⟨m', h1', fun l => (h2' l).trans ?_⟩
    rw [h2 l, show 512 + 1024 * (n + 1) = 512 + 1024 * n + 1024 by ring, ← weighted_step x (row x4 x2 l) (512 + 1024 * n) 1024 m m']
    exact congrArg (fun a : EReal => _ + a) (Finset.sum_congr rfl fun t _ =>
      congrArg (fun a : EReal => (two (x (512 + 1024 * n + t.val) - m') : EReal) * a) (row_stretch x4 x2 l ⟨n, by omega⟩ t).symm)

/-- The lane a rotation by 64 brings to lane `l`. -/
def partner (l : Fin 128) : Fin 128 := ⟨(l.val + 64) % 128, by omega⟩

theorem rotate_apply (x : FVec Ideal S512x128 .f32) (r : Fin 512) (l : Fin 128) :
    dynamicRotate 1 64#32 none x rotates_S512x128_d1 (ix2 r l) = x (ix2 r (partner l)) :=
  dynamicRotate_apply 1 64#32 x rotates_S512x128_d1 (ix2 r l) (ix2 r (partner l)) (fun b => match b with
    | ⟨0, _⟩ => rfl
    | ⟨1, _⟩ => by
      show (l.val + 64) % 128 = (l.val + 128 - 64 % 128) % 128
      omega)

/-- The mask of the lower lanes. -/
theorem mask_apply (r : Fin 512) (l : Fin 128) : k0_pay17 (ix2 r l) = if l.val < 64 then 1#1 else 0#1 := by
  have e : k0_pay17 (ix2 r l) = IntOp.cmpi .slt (iota .tc S512x128 32 [1] iota_S512x128_d1_w32 (ix2 r l)) 64#32 := rfl
  have e2 : iota .tc S512x128 32 [1] iota_S512x128_d1_w32 (ix2 r l) = BitVec.ofNat 32 l.val := by
    unfold iota
    refine congrArg (BitVec.ofNat 32) ?_
    show 0 * 128 + l.val = l.val
    omega
  rw [e, e2]
  exact (show ∀ l : Fin 128, IntOp.cmpi .slt (BitVec.ofNat 32 l.val) 64#32 = if l.val < 64 then 1#1 else 0#1 from by decide +kernel) l

theorem quarter_apply (s : FVec Ideal S2048x128 .f32) (o : ℕ) (inb : ∀ a, (![o, 0] : Fin 2 → ℕ) a + S512x128.size a ≤ S2048x128.size a)
    (r : Fin 512) (l : Fin 128) (h : o + r.val < 2048) : quarter s o inb (ix2 r l) = s (ix2 (⟨o + r.val, h⟩ : Fin 2048) l) := by
  unfold quarter VecWindow.window
  refine congrArg s (funext fun a => Fin.ext ?_)
  show (![o, 0] : Fin 2 → ℕ) a + 1 * (ix2 r l a).val = _
  rw [Nat.one_mul]
  match a with
  | ⟨0, _⟩ => rfl
  | ⟨1, _⟩ => exact Nat.zero_add _

/-- A pair of heads' quotients: the lower lanes the first head's, the upper lanes the second's, moved up by 64. -/
theorem pair_apply (a b : FVec Ideal S512x128 .f32) (mask : IVec S512x128 1) (hm : ∀ r l, mask (ix2 r l) = if l.val < 64 then 1#1 else 0#1)
    (q : FVec Ideal S512x128 .f32) (hq : ∀ r l, q (ix2 r l) = Ideal.div (a (ix2 r l)) (a (ix2 r (partner l))))
    (r : Fin 512) (l : Fin 128) :
    k0_pay1 mask q b 64#32 (ix2 r l)
      = if l.val < 64 then Ideal.div (a (ix2 r l)) (a (ix2 r (partner l))) else Ideal.div (b (ix2 r (partner l))) (b (ix2 r l)) := by
  have e : k0_pay1 mask q b 64#32 (ix2 r l) = (if mask (ix2 r l) = 1#1 then q (ix2 r l)
      else dynamicRotate 1 64#32 none (divf b (dynamicRotate 1 64#32 none b rotates_S512x128_d1)) rotates_S512x128_d1 (ix2 r l)) := by
    unfold k0_pay1
    rfl
  rw [e, hm, hq, rotate_apply]
  by_cases h : l.val < 64
  · rw [if_pos h, if_pos h, if_pos rfl]
  · rw [if_neg h, if_neg h, if_neg (by decide)]
    show Ideal.div (b (ix2 r (partner l))) (dynamicRotate 1 64#32 none b rotates_S512x128_d1 (ix2 r (partner l))) = _
    rw [rotate_apply]
    congr 3
    apply Fin.ext
    show ((l.val + 64) % 128 + 64) % 128 = l.val
    omega

theorem pay18_apply (a : FVec Ideal S512x128 .f32) (r : Fin 512) (l : Fin 128) :
    k0_pay18 (F := Ideal) a (ix2 r l) = Ideal.div (a (ix2 r l)) (a (ix2 r (partner l))) := by
  show Ideal.div (a (ix2 r l)) (dynamicRotate 1 64#32 none a rotates_S512x128_d1 (ix2 r l)) = _
  rw [rotate_apply]

theorem pay16_eq (a b : FVec Ideal S512x128 .f32) : k0_pay16 (F := Ideal) a b = k0_pay1 (F := Ideal) k0_pay17 (k0_pay18 (F := Ideal) a) b 64#32 := rfl

/-- The output of head `h`, query `r`, column `d`: the sum in lane `d` over the sum in lane `64 + d`. -/
def quot (S : FVec Ideal S2048x128 .f32) (h : Fin 4) (r : Fin 512) (d : Fin 64) : EReal :=
  Ideal.div (S (ix2 (⟨512 * h.val + r.val, by omega⟩ : Fin 2048) (⟨d.val, by omega⟩ : Fin 128)))
    (S (ix2 (⟨512 * h.val + r.val, by omega⟩ : Fin 2048) (⟨64 + d.val, by omega⟩ : Fin 128)))

theorem leftHalf_apply (S : FVec Ideal S2048x128 .f32) (r : Fin 512) (l : Fin 128) :
    leftHalf S (ix2 r l) = quot S (⟨l.val / 64, by omega⟩ : Fin 4) r (⟨l.val % 64, by omega⟩ : Fin 64) := by
  unfold leftHalf
  rw [pay16_eq, pair_apply _ _ _ mask_apply _ (pay18_apply _)]
  unfold quot
  by_cases h : l.val < 64
  · rw [if_pos h, quarter_apply _ _ _ r l (by omega), quarter_apply _ _ _ r _ (by omega)]
    congr 3 <;> (apply Fin.ext) <;> dsimp only [partner] <;> omega
  · rw [if_neg h, quarter_apply _ _ _ r l (by omega), quarter_apply _ _ _ r _ (by omega)]
    congr 3 <;> (apply Fin.ext) <;> dsimp only [partner] <;> omega

theorem rightHalf_apply (S : FVec Ideal S2048x128 .f32) (r : Fin 512) (l : Fin 128) :
    rightHalf S (ix2 r l) = quot S (⟨2 + l.val / 64, by omega⟩ : Fin 4) r (⟨l.val % 64, by omega⟩ : Fin 64) := by
  unfold rightHalf
  rw [pair_apply _ _ _ mask_apply _ (pay18_apply _)]
  unfold quot
  by_cases h : l.val < 64
  · rw [if_pos h, quarter_apply _ _ _ r l (by omega), quarter_apply _ _ _ r _ (by omega)]
    congr 3 <;> (apply Fin.ext) <;> dsimp only [partner] <;> omega
  · rw [if_neg h, quarter_apply _ _ _ r l (by omega), quarter_apply _ _ _ r _ (by omega)]
    congr 3 <;> (apply Fin.ext) <;> dsimp only [partner] <;> omega

section
variable (c : Dev nD) (i : grid0.Coords) (arg3 : Memref sig .tc .vmem S1x4x512x128 .f32) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x512x128 .bf16) (harg6 : arg6.IsWhole) (arg7 : Memref sig .tc .vmem S1x1x512x128 .bf16) (harg7 : arg7.IsWhole) (arg9 : Memref sig .tc .vmem S512x256 .bf16) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole)

/-- The output block, entry by entry: column `j` is column `j mod 64` of head `j / 64`. -/
theorem out_apply (r : Fin 512) (j : Fin 256) :
    out0_A_5 (F := Ideal) c i arg3 harg3 arg4 harg4 arg5 harg5 arg6 harg6 arg7 harg7 arg9 harg9 arg10 harg10 arg11 harg11 arg12 harg12 x0 x1 x2 x3 x4 (ix2 r j)
      = quot (state x0 x1 x2 x3 x4 k0_t1_loop.trips).2 (⟨j.val / 64, by omega⟩ : Fin 4) r (⟨j.val % 64, by omega⟩ : Fin 64) := by
  by_cases h : j.val < 128
  · rw [out_left c i arg3 harg3 arg4 harg4 arg5 harg5 arg6 harg6 arg7 harg7 arg9 harg9 arg10 harg10 arg11 harg11 arg12 harg12 x0 x1 x2 x3 x4
      (ix2 r j) (ix2 r (⟨j.val, h⟩ : Fin 128)) rfl rfl, leftHalf_apply]
  · rw [out_right c i arg3 harg3 arg4 harg4 arg5 harg5 arg6 harg6 arg7 harg7 arg9 harg9 arg10 harg10 arg11 harg11 arg12 harg12 x0 x1 x2 x3 x4
      (ix2 r j) (ix2 r (⟨j.val - 128, by omega⟩ : Fin 128)) rfl (by show j.val = 128 + (j.val - 128); omega), rightHalf_apply]
    congr 1 <;> (apply Fin.ext) <;> dsimp only <;> omega

end

/-- The quotient is the softmax-weighted mean of the values: `y` are the scores to the base e, `M` any shift. -/
theorem quot_eq (h : Fin 4) (r : Fin 512) (d : Fin 64) (x y : ℕ → ℝ)
    (hx : ∀ s < 4608, score x0 x1 x3 (⟨512 * h.val + r.val, by omega⟩ : Fin 2048) s = (x s : EReal))
    (hxy : ∀ s < 4608, Real.log 2 * x s = y s) (M : ℝ)
    (hones : ∀ s < 4608, row x4 x2 (⟨64 + d.val, by omega⟩ : Fin 128) s = 1) :
    quot (state x0 x1 x2 x3 x4 k0_t1_loop.trips).2 h r d
      = ∑ s ∈ Finset.range 4608, row x4 x2 (⟨d.val, by omega⟩ : Fin 128) s
          * ((Real.exp (y s - M) * (1 / ∑ t ∈ Finset.range 4608, Real.exp (y t - M)) : ℝ) : EReal) := by
  obtain ⟨m, _, h2⟩ := state_real x0 x1 x2 x3 x4 (⟨512 * h.val + r.val, by omega⟩ : Fin 2048) x hx k0_t1_loop.trips (le_refl _)
  have e : 512 + 1024 * k0_t1_loop.trips = 4608 := by rw [trips_eq]
  rw [e] at h2
  unfold quot
  rw [h2, h2, ← weighted_div x y (row x4 x2 (⟨d.val, by omega⟩ : Fin 128)) 4608 (by norm_num) m M hxy]
  refine congrArg (Ideal.div _) (Finset.sum_congr rfl fun s hs => ?_)
  rw [hones s (Finset.mem_range.mp hs)]

end Cert.AttnProof

end
-- ==== Proof.Prep.lean ====
/- What the attention call finds in its operands: the queries, keys and values with heads moved to the front and their
   64 lanes filled up to 128, entry by entry, and so each grid step's blocks. -/
module

public import proofs.«01_k».proof.Proof.Block

@[expose] public section

set_option maxRecDepth 16384

noncomputable section

namespace Cert.AttnProof

open Cert.AttnIdeal Cert.AttnIdeal.Gen Idealize.ShloMosaic Idealize.ShloMosaic.ValueIdx Idealize.ShloMosaic.TcCoe
  Idealize.ShloMosaic.Tactic

/-- Filling 64 lanes up to 128: a lane below 64 keeps its entry, one above it holds the fill. -/
theorem fill_apply {A B N : ℕ} {α : Type} (x : (⟨4, ![A, B, N, 64]⟩ : Shape).Idx → α) {u : Shape} (v : u.Idx → α)
    (h : (⟨4, ![A, B, N, 64]⟩ : Shape).Pads (![0, 0, 0, 0] : Fin 4 → ℕ) ![0, 0, 0, 64] ![0, 0, 0, 0] ⟨4, ![A, B, N, 128]⟩)
    (hu : 0 < u.numel) (a : Fin A) (b : Fin B) (n : Fin N) (d : Fin 128) :
    pad ⟨4, ![A, B, N, 128]⟩ ![0, 0, 0, 0] ![0, 0, 0, 64] ![0, 0, 0, 0] x v h hu (ix4 a b n d) =
      if hd : d.val < 64 then x (ix4 a b n ⟨d.val, hd⟩) else v (Shape.Idx.first hu) := by
  split
  next hd =>
    refine pad_apply_of_inside _ _ _ x v h hu _ (ix4 a b n ⟨d.val, hd⟩) fun e => ?_
    match e with
    | ⟨0, _⟩ => show a.val = 0 + a.val * 1; omega
    | ⟨1, _⟩ => show b.val = 0 + b.val * 1; omega
    | ⟨2, _⟩ => show n.val = 0 + n.val * 1; omega
    | ⟨3, _⟩ => show d.val = 0 + d.val * 1; omega
  next hd =>
    refine pad_apply_of_not_inside _ _ _ x v h hu _ (3 : Fin 4) fun hin => hd ?_
    have h3 : (d.val - 0) / (0 + 1) < 64 := hin.2.2
    omega

/-- Moving the head axis before the sequence axis, read at an entry. -/
theorem heads_apply {A N B D : ℕ} {α : Type} (x : (⟨4, ![A, N, B, D]⟩ : Shape).Idx → α)
    (h : (⟨4, ![A, N, B, D]⟩ : Shape).Transposes [0, 2, 1, 3] ⟨4, ![A, B, N, D]⟩) (a : Fin A) (b : Fin B) (n : Fin N) (d : Fin D) :
    transpose ⟨4, ![A, B, N, D]⟩ [0, 2, 1, 3] x h (ix4 a b n d) = x (ix4 a n b d) := by
  refine transpose_apply _ x h _ (ix4 a n b d) fun e => ?_
  match e with
  | ⟨0, _⟩ => rfl
  | ⟨1, _⟩ => rfl
  | ⟨2, _⟩ => rfl
  | ⟨3, _⟩ => rfl

section
variable (m : (ℓ : Loc nD τ sig) → Buf (Elt Ideal) ℓ) (c : Dev nD)

/-- The queries as the call finds them: their heads moved before their rows, their lanes filled up with zeros. -/
theorem queries_eq : V m c main_v1 = pad S8x16x4096x128 ![0, 0, 0, 0] ![0, 0, 0, 64] ![0, 0, 0, 0]
    (transpose S8x16x4096x64 [0, 2, 1, 3] (m ((c : Thread nD τ).loc main_arg0)) transposes_S8x4096x16x64_S8x16x4096x64_0_2_1_3)
    (sitofp (F := Ideal) .f32 (constantI S_ 32 0#32)) pads_S8x16x4096x64_S8x16x4096x128_000_000_000_0640 h_S_ := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

/-- The keys likewise. -/
theorem keys_eq : V m c main_v4 = pad S8x4x4096x128 ![0, 0, 0, 0] ![0, 0, 0, 64] ![0, 0, 0, 0]
    (transpose S8x4x4096x64 [0, 2, 1, 3] (m ((c : Thread nD τ).loc main_arg1)) transposes_S8x4096x4x64_S8x4x4096x64_0_2_1_3)
    (constant (F := Ideal) S_ .f32 0x00000000#32) pads_S8x4x4096x64_S8x4x4096x128_000_000_000_0640 h_S_ := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

/-- The values likewise, their lanes filled up with ones. -/
theorem values_eq : V m c main_v7 = pad S8x4x4096x128 ![0, 0, 0, 0] ![0, 0, 0, 64] ![0, 0, 0, 0]
    (transpose S8x4x4096x64 [0, 2, 1, 3] (m ((c : Thread nD τ).loc main_arg2)) transposes_S8x4096x4x64_S8x4x4096x64_0_2_1_3)
    (constant (F := Ideal) S_ .f32 0x3F800000#32) pads_S8x4x4096x64_S8x4x4096x128_000_000_000_0640 h_S_ := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

/-- The cached keys likewise, filled up with zeros. -/
theorem cachedKeys_eq : V m c main_v10 = pad S8x4x512x128 ![0, 0, 0, 0] ![0, 0, 0, 64] ![0, 0, 0, 0]
    (transpose S8x4x512x64 [0, 2, 1, 3] (m ((c : Thread nD τ).loc main_arg3)) transposes_S8x512x4x64_S8x4x512x64_0_2_1_3)
    (constant (F := Ideal) S_ .f32 0x00000000#32) pads_S8x4x512x64_S8x4x512x128_000_000_000_0640 h_S_ := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

/-- The cached values likewise, filled up with ones. -/
theorem cachedValues_eq : V m c main_v13 = pad S8x4x512x128 ![0, 0, 0, 0] ![0, 0, 0, 64] ![0, 0, 0, 0]
    (transpose S8x4x512x64 [0, 2, 1, 3] (m ((c : Thread nD τ).loc main_arg4)) transposes_S8x512x4x64_S8x4x512x64_0_2_1_3)
    (constant (F := Ideal) S_ .f32 0x3F800000#32) pads_S8x4x512x64_S8x4x512x128_000_000_000_0640 h_S_ := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

/-- The array the call writes is first the one it is written into. -/
theorem into_eq : V m c main_v14 = m ((c : Thread nD τ).loc main_arg5) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  rfl

/-- The zero the query lanes are filled with. -/
theorem fill_zero (j : S_.Idx) : sitofp (F := Ideal) .f32 (constantI S_ 32 0#32) j = (0 : EReal) := by
  show (((0#32 : BitVec 32).toInt : ℝ) : EReal) = 0
  simp

theorem word_zero (j : S_.Idx) : constant (F := Ideal) S_ .f32 0x00000000#32 j = (0 : EReal) := by
  show Ideal.ofBits .f32 0x00000000#32 = _
  simp [Ideal.ofBits, Ideal.ieee]

theorem word_one (j : S_.Idx) : constant (F := Ideal) S_ .f32 0x3F800000#32 j = (1 : EReal) := by
  show Ideal.ofBits .f32 0x3F800000#32 = _
  simp [Ideal.ofBits, Ideal.ieee]
  rw [← EReal.coe_mul]
  norm_num

/-- An entry of the queries the call finds. -/
theorem queries_apply (b : Fin 8) (h : Fin 16) (s : Fin 4096) (d : Fin 128) :
    V m c main_v1 (ix4 b h s d) =
      if hd : d.val < 64 then m ((c : Thread nD τ).loc main_arg0) (ix4 b s h (⟨d.val, hd⟩ : Fin 64)) else (0 : EReal) := by
  rw [queries_eq]
  refine (fill_apply _ _ _ _ b h s d).trans ?_
  split
  · exact heads_apply _ _ b h s _
  · exact fill_zero _

/-- An entry of the keys the call finds. -/
theorem keys_apply (b : Fin 8) (h : Fin 4) (s : Fin 4096) (d : Fin 128) :
    V m c main_v4 (ix4 b h s d) =
      if hd : d.val < 64 then m ((c : Thread nD τ).loc main_arg1) (ix4 b s h (⟨d.val, hd⟩ : Fin 64)) else (0 : EReal) := by
  rw [keys_eq]
  refine (fill_apply _ _ _ _ b h s d).trans ?_
  split
  · exact heads_apply _ _ b h s _
  · exact word_zero _

/-- An entry of the values the call finds. -/
theorem values_apply (b : Fin 8) (h : Fin 4) (s : Fin 4096) (d : Fin 128) :
    V m c main_v7 (ix4 b h s d) =
      if hd : d.val < 64 then m ((c : Thread nD τ).loc main_arg2) (ix4 b s h (⟨d.val, hd⟩ : Fin 64)) else (1 : EReal) := by
  rw [values_eq]
  refine (fill_apply _ _ _ _ b h s d).trans ?_
  split
  · exact heads_apply _ _ b h s _
  · exact word_one _

/-- An entry of the cached keys the call finds. -/
theorem cachedKeys_apply (b : Fin 8) (h : Fin 4) (s : Fin 512) (d : Fin 128) :
    V m c main_v10 (ix4 b h s d) =
      if hd : d.val < 64 then m ((c : Thread nD τ).loc main_arg3) (ix4 b s h (⟨d.val, hd⟩ : Fin 64)) else (0 : EReal) := by
  rw [cachedKeys_eq]
  refine (fill_apply _ _ _ _ b h s d).trans ?_
  split
  · exact heads_apply _ _ b h s _
  · exact word_zero _

/-- An entry of the cached values the call finds. -/
theorem cachedValues_apply (b : Fin 8) (h : Fin 4) (s : Fin 512) (d : Fin 128) :
    V m c main_v13 (ix4 b h s d) =
      if hd : d.val < 64 then m ((c : Thread nD τ).loc main_arg4) (ix4 b s h (⟨d.val, hd⟩ : Fin 64)) else (1 : EReal) := by
  rw [cachedValues_eq]
  refine (fill_apply _ _ _ _ b h s d).trans ?_
  split
  · exact heads_apply _ _ b h s _
  · exact word_one _

/-! ## The blocks of a grid step -/

theorem steps_eq : cfg0.N = 256 := by decide +kernel

/-- The sample of a grid step. -/
def sampleOf (t : Fin cfg0.N) : Fin 8 := ⟨t.val / 32, by have h : t.val < 256 := steps_eq ▸ t.isLt; omega⟩

/-- The key head of a grid step. -/
def groupOf (t : Fin cfg0.N) : Fin 4 := ⟨t.val / 8 % 4, by omega⟩

/-- Query head `h` of a grid step's key head. -/
def headOf (t : Fin cfg0.N) (h : Fin 4) : Fin 16 := ⟨4 * (groupOf t).val + h.val, by have := (groupOf t).isLt; omega⟩

/-- Query `r` of a grid step's block of queries. -/
def queryOf (t : Fin cfg0.N) (r : Fin 512) : Fin 4096 := ⟨512 * (t.val % 8) + r.val, by omega⟩

theorem index_queries : ∀ t : Fin cfg0.N, win0_0.index t (0 : Fin 4) = t.val / 32 ∧ win0_0.index t (1 : Fin 4) = t.val / 8 % 4
    ∧ win0_0.index t (2 : Fin 4) = t.val % 8 ∧ win0_0.index t (3 : Fin 4) = 0 := (by decide +kernel : ∀ t : Fin grid0.N, _)

theorem index_keys : ∀ t : Fin cfg0.N, win0_1.index t (0 : Fin 4) = t.val / 32 ∧ win0_1.index t (1 : Fin 4) = t.val / 8 % 4
    ∧ win0_1.index t (2 : Fin 4) = 0 ∧ win0_1.index t (3 : Fin 4) = 0 := (by decide +kernel : ∀ t : Fin grid0.N, _)

theorem index_values : ∀ t : Fin cfg0.N, win0_2.index t (0 : Fin 4) = t.val / 32 ∧ win0_2.index t (1 : Fin 4) = t.val / 8 % 4
    ∧ win0_2.index t (2 : Fin 4) = 0 ∧ win0_2.index t (3 : Fin 4) = 0 := (by decide +kernel : ∀ t : Fin grid0.N, _)

theorem index_cachedKeys : ∀ t : Fin cfg0.N, win0_3.index t (0 : Fin 4) = t.val / 32 ∧ win0_3.index t (1 : Fin 4) = t.val / 8 % 4
    ∧ win0_3.index t (2 : Fin 4) = 0 ∧ win0_3.index t (3 : Fin 4) = 0 := (by decide +kernel : ∀ t : Fin grid0.N, _)

theorem index_cachedValues : ∀ t : Fin cfg0.N, win0_4.index t (0 : Fin 4) = t.val / 32 ∧ win0_4.index t (1 : Fin 4) = t.val / 8 % 4
    ∧ win0_4.index t (2 : Fin 4) = 0 ∧ win0_4.index t (3 : Fin 4) = 0 := (by decide +kernel : ∀ t : Fin grid0.N, _)

theorem index_out : ∀ t : Fin cfg0.N, win0_5.index t (0 : Fin 2) = 8 + 8 * (t.val / 32) + t.val % 8
    ∧ win0_5.index t (1 : Fin 2) = t.val / 8 % 4 := (by decide +kernel : ∀ t : Fin grid0.N, _)

/-- A grid step's block of queries. -/
theorem block_queries (t : Fin cfg0.N) (h : Fin 4) (r : Fin 512) (d : Fin 128) :
    iblk m c 0 t (ix4 (0 : Fin 1) h r d) = V m c main_v1 (ix4 (sampleOf t) (headOf t h) (queryOf t r) d) := by
  obtain ⟨e0, e1, e2, e3⟩ := index_queries t
  refine congrArg (V m c main_v1) (funext fun a => Fin.ext ?_)
  match a with
  | ⟨0, _⟩ => show win0_0.index t (0 : Fin 4) * 1 + 1 * 0 = t.val / 32; omega
  | ⟨1, _⟩ => show win0_0.index t (1 : Fin 4) * 4 + 1 * h.val = 4 * (t.val / 8 % 4) + h.val; omega
  | ⟨2, _⟩ => show win0_0.index t (2 : Fin 4) * 512 + 1 * r.val = 512 * (t.val % 8) + r.val; omega
  | ⟨3, _⟩ => show win0_0.index t (3 : Fin 4) * 128 + 1 * d.val = d.val; omega

theorem block_keys (t : Fin cfg0.N) (s : Fin 4096) (d : Fin 128) :
    iblk m c 1 t (ix4 (0 : Fin 1) (0 : Fin 1) s d) = V m c main_v4 (ix4 (sampleOf t) (groupOf t) s d) := by
  obtain ⟨e0, e1, e2, e3⟩ := index_keys t
  refine congrArg (V m c main_v4) (funext fun a => Fin.ext ?_)
  match a with
  | ⟨0, _⟩ => show win0_1.index t (0 : Fin 4) * 1 + 1 * 0 = t.val / 32; omega
  | ⟨1, _⟩ => show win0_1.index t (1 : Fin 4) * 1 + 1 * 0 = t.val / 8 % 4; omega
  | ⟨2, _⟩ => show win0_1.index t (2 : Fin 4) * 4096 + 1 * s.val = s.val; omega
  | ⟨3, _⟩ => show win0_1.index t (3 : Fin 4) * 128 + 1 * d.val = d.val; omega

theorem block_values (t : Fin cfg0.N) (s : Fin 4096) (d : Fin 128) :
    iblk m c 2 t (ix4 (0 : Fin 1) (0 : Fin 1) s d) = V m c main_v7 (ix4 (sampleOf t) (groupOf t) s d) := by
  obtain ⟨e0, e1, e2, e3⟩ := index_values t
  refine congrArg (V m c main_v7) (funext fun a => Fin.ext ?_)
  match a with
  | ⟨0, _⟩ => show win0_2.index t (0 : Fin 4) * 1 + 1 * 0 = t.val / 32; omega
  | ⟨1, _⟩ => show win0_2.index t (1 : Fin 4) * 1 + 1 * 0 = t.val / 8 % 4; omega
  | ⟨2, _⟩ => show win0_2.index t (2 : Fin 4) * 4096 + 1 * s.val = s.val; omega
  | ⟨3, _⟩ => show win0_2.index t (3 : Fin 4) * 128 + 1 * d.val = d.val; omega

theorem block_cachedKeys (t : Fin cfg0.N) (s : Fin 512) (d : Fin 128) :
    iblk m c 3 t (ix4 (0 : Fin 1) (0 : Fin 1) s d) = V m c main_v10 (ix4 (sampleOf t) (groupOf t) s d) := by
  obtain ⟨e0, e1, e2, e3⟩ := index_cachedKeys t
  refine congrArg (V m c main_v10) (funext fun a => Fin.ext ?_)
  match a with
  | ⟨0, _⟩ => show win0_3.index t (0 : Fin 4) * 1 + 1 * 0 = t.val / 32; omega
  | ⟨1, _⟩ => show win0_3.index t (1 : Fin 4) * 1 + 1 * 0 = t.val / 8 % 4; omega
  | ⟨2, _⟩ => show win0_3.index t (2 : Fin 4) * 512 + 1 * s.val = s.val; omega
  | ⟨3, _⟩ => show win0_3.index t (3 : Fin 4) * 128 + 1 * d.val = d.val; omega

theorem block_cachedValues (t : Fin cfg0.N) (s : Fin 512) (d : Fin 128) :
    iblk m c 4 t (ix4 (0 : Fin 1) (0 : Fin 1) s d) = V m c main_v13 (ix4 (sampleOf t) (groupOf t) s d) := by
  obtain ⟨e0, e1, e2, e3⟩ := index_cachedValues t
  refine congrArg (V m c main_v13) (funext fun a => Fin.ext ?_)
  match a with
  | ⟨0, _⟩ => show win0_4.index t (0 : Fin 4) * 1 + 1 * 0 = t.val / 32; omega
  | ⟨1, _⟩ => show win0_4.index t (1 : Fin 4) * 1 + 1 * 0 = t.val / 8 % 4; omega
  | ⟨2, _⟩ => show win0_4.index t (2 : Fin 4) * 512 + 1 * s.val = s.val; omega
  | ⟨3, _⟩ => show win0_4.index t (3 : Fin 4) * 128 + 1 * d.val = d.val; omega

/-- Row `s` of the cached rows followed by the new ones, for sample `b` and head `h`; zero past the last. -/
def joined (x : (⟨4, ![8, 512, 4, 64]⟩ : Shape).Idx → EReal) (y : (⟨4, ![8, 4096, 4, 64]⟩ : Shape).Idx → EReal) (b : Fin 8) (h : Fin 4) (d : Fin 64) (s : ℕ) : EReal :=
  if h1 : s < 512 then x (ix4 b (⟨s, h1⟩ : Fin 512) h d)
  else if h2 : s - 512 < 4096 then y (ix4 b (⟨s - 512, h2⟩ : Fin 4096) h d) else 0

/-- The key rows of a grid step: the cached ones and the new ones, zero in the filled lanes. -/
theorem row_keys (t : Fin cfg0.N) (l : Fin 128) (s : ℕ) :
    row (iblk m c 3 t) (iblk m c 1 t) l s = if hl : l.val < 64 then
      joined (m ((c : Thread nD τ).loc main_arg3)) (m ((c : Thread nD τ).loc main_arg1)) (sampleOf t) (groupOf t) ⟨l.val, hl⟩ s
      else (0 : EReal) := by
  unfold row joined
  by_cases hl : l.val < 64
  · rw [dif_pos hl]
    split
    · rw [block_cachedKeys, cachedKeys_apply, dif_pos hl]
    · split
      · rw [block_keys, keys_apply, dif_pos hl]
      · rfl
  · rw [dif_neg hl]
    split
    · rw [block_cachedKeys, cachedKeys_apply, dif_neg hl]
    · split
      · rw [block_keys, keys_apply, dif_neg hl]
      · rfl

/-- The value rows of a grid step. -/
theorem row_values (t : Fin cfg0.N) (l : Fin 128) (s : ℕ) (hl : l.val < 64) :
    row (iblk m c 4 t) (iblk m c 2 t) l s =
      joined (m ((c : Thread nD τ).loc main_arg4)) (m ((c : Thread nD τ).loc main_arg2)) (sampleOf t) (groupOf t) ⟨l.val, hl⟩ s := by
  unfold row joined
  split
  · rw [block_cachedValues, cachedValues_apply, dif_pos hl]
  · split
    · rw [block_values, values_apply, dif_pos hl]
    · rfl

/-- Their filled lanes are ones. -/
theorem row_ones (t : Fin cfg0.N) (l : Fin 128) (s : ℕ) (hs : s < 4608) (hl : ¬l.val < 64) :
    row (iblk m c 4 t) (iblk m c 2 t) l s = (1 : EReal) := by
  unfold row
  split
  · rw [block_cachedValues, cachedValues_apply, dif_neg hl]
  · split
    · rw [block_values, values_apply, dif_neg hl]
    · omega

end

end Cert.AttnProof
end
-- ==== Proof.Ref.lean ====
/- What the attention's reference computes, entry by entry: the rows it keeps, and, in the others, the values of 4608 keys
   weighted by the softmax of their logits. -/
module

public import proofs.«01_k».proof.Proof.Prep
public import proofs.«01_k».proof.Proof.Gen.AttnRefIdeal.Read

@[expose] public section

set_option maxRecDepth 16384

noncomputable section

namespace Cert.AttnProof

open Cert.AttnRefIdeal Cert.AttnRefIdeal.Gen Cert.AttnRefIdeal.Read Idealize.ShloMosaic Idealize.ShloMosaic.ValueIdx

variable (x0 : Vec Ideal S8x4096x16x64 .f32) (x1 x2 : Vec Ideal S8x4096x4x64 .f32) (x3 x4 : Vec Ideal S8x512x4x64 .f32)

/-- Joining cached rows and new rows along the sequence, read at a row. -/
theorem join_apply (x : Vec Ideal S8x512x4x64 .f32) (y : Vec Ideal S8x4096x4x64 .f32) (b : Fin 8) (s : Fin 4608) (h : Fin 4)
    (d : Fin 64) :
    concatenate S8x4608x4x64 1 [⟨S8x512x4x64, x⟩, ⟨S8x4096x4x64, y⟩] concatenates_S8x512x4x64_S8x4096x4x64_S8x4608x4x64_d1
      (ix4 b s h d) = joined x y b h d s.val := by
  have hs := s.isLt
  unfold joined
  by_cases h1 : s.val < 512
  · rw [dif_pos h1]
    exact concatenate_pair_apply_left (t := S8x4608x4x64) (s₁ := S8x512x4x64) (s₂ := S8x4096x4x64) 1 x y
      concatenates_S8x512x4x64_S8x4096x4x64_S8x4608x4x64_d1 (ix4 b s h d) rfl (ix4 b (⟨s.val, h1⟩ : Fin 512) h d) fun a => by
      match a with
      | ⟨0, _⟩ => rfl
      | ⟨1, _⟩ => rfl
      | ⟨2, _⟩ => rfl
      | ⟨3, _⟩ => rfl
  · rw [dif_neg h1, dif_pos (by omega : s.val - 512 < 4096)]
    refine concatenate_pair_apply_right (t := S8x4608x4x64) (s₁ := S8x512x4x64) (s₂ := S8x4096x4x64) 1 x y
      concatenates_S8x512x4x64_S8x4096x4x64_S8x4608x4x64_d1 (ix4 b s h d) rfl rfl (ix4 b (⟨s.val - 512, by omega⟩ : Fin 4096) h d) (fun a ha => ?_) ?_
    · match a with
      | ⟨0, _⟩ => rfl
      | ⟨1, _⟩ => exact absurd rfl ha
      | ⟨2, _⟩ => rfl
      | ⟨3, _⟩ => rfl
    · show s.val - 512 + 512 = s.val
      omega

/-- The logit of query `p` of head `4 h + g` and key `s`. -/
def logit (b : Fin 8) (h g : Fin 4) (p : Fin 4096) (s : ℕ) : EReal :=
  (∑ d : Fin 64, joined x3 x1 b h d s * x0 (ix4 b p (⟨4 * h.val + g.val, by omega⟩ : Fin 16) d)) * ((8⁻¹ : ℝ) : EReal)

theorem eighth (j : S_.Idx) : val_main_cst (F := Ideal) j = ((8⁻¹ : ℝ) : EReal) := by
  show Ideal.ofBits .f32 0x3E000000#32 = _
  simp [Ideal.ofBits, Ideal.ieee]
  rw [← EReal.coe_mul]
  exact congrArg _ (by norm_num)

/-- The reference's scaled products are the logits. -/
theorem logit_eq (b : Fin 8) (h g : Fin 4) (p : Fin 4096) (s : Fin 4608) :
    val_main_v6 (F := Ideal) x0 x1 x3 (ix5 b h g p s) = logit x0 x1 x3 b h g p s.val := by
  unfold logit
  rw [val_main_v6_apply]
  refine congrArg₂ (fun u v : EReal => u * v) ?_ ?_
  · rw [val_main_v4_apply, val_main_v3_apply]
    refine Finset.sum_congr rfl fun d _ => ?_
    refine congrArg₂ (fun u v : EReal => u * v) ?_ ?_
    · refine (congrArg (val_main_v0 (F := Ideal) x1 x3) (funext fun a => ?_)).trans (join_apply x3 x1 b s h d)
      match a with
      | ⟨0, _⟩ => rfl
      | ⟨1, _⟩ => rfl
      | ⟨2, _⟩ => rfl
      | ⟨3, _⟩ => rfl
    · rw [val_main_v2_apply]
      refine congrArg x0 (funext fun a => Fin.ext ?_)
      have hb := b.isLt; have hp := p.isLt; have hh := h.isLt; have hg := g.isLt; have hd := d.isLt
      match a with
      | ⟨0, _⟩ => show ((((b.val * 4096 + p.val) * 4 + h.val) * 4 + g.val) * 64 + d.val) / 4194304 = b.val; omega
      | ⟨1, _⟩ => show ((((b.val * 4096 + p.val) * 4 + h.val) * 4 + g.val) * 64 + d.val) / 1024 % 4096 = p.val; omega
      | ⟨2, _⟩ => show ((((b.val * 4096 + p.val) * 4 + h.val) * 4 + g.val) * 64 + d.val) / 64 % 16 = 4 * h.val + g.val; omega
      | ⟨3, _⟩ => show ((((b.val * 4096 + p.val) * 4 + h.val) * 4 + g.val) * 64 + d.val) % 64 = d.val; omega
  · rw [val_main_v5_apply]
    exact eighth _

theorem lowest (j : S_.Idx) : val_main_cst_0 (F := Ideal) j = (⊥ : EReal) := by
  show Ideal.ofBits .f32 0xFF800000#32 = _
  simp [Ideal.ofBits, Ideal.ieee]

theorem nothing (j : S_.Idx) : val_main_cst_2 (F := Ideal) j = (0 : EReal) := by
  show Ideal.ofBits .f32 0x00000000#32 = _
  simp [Ideal.ofBits, Ideal.ieee]

/-- Where the logits of a query are real, so is the number the reference subtracts from them. -/
theorem shift_real (b : Fin 8) (h g : Fin 4) (p : Fin 4096) (y : ℕ → ℝ)
    (hy : ∀ s < 4608, logit x0 x1 x3 b h g p s = (y s : EReal)) :
    ∃ M : ℝ, val_main_v9 (F := Ideal) x0 x1 x3 (ix4 b h g p) = (M : EReal) := by
  obtain ⟨M, hM⟩ := fold_max_real (by norm_num : 0 < 4608) (fun s => val_main_v6 (F := Ideal) x0 x1 x3 (ix5 b h g p s))
    (fun s => y s.val) fun s => (logit_eq x0 x1 x3 b h g p s).trans (hy s.val s.isLt)
  refine ⟨M, ?_⟩
  rw [val_main_v9_apply, val_main_v8_apply]
  have e7 : val_main_v7 (F := Ideal) x0 x1 x3 (ix4 b h g p) = (M : EReal) := by
    rw [← hM]
    unfold val_main_v7
    have hR : S8x4x4x4096x4608.Reduces [4] S8x4x4x4096 := by decide
    refine (Host.reduce_eq_fold_single (FloatOps.maximumf (F := Ideal) (φ := .f32)) (val_main_v6 (F := Ideal) x0 x1 x3) _
      reducesTo_S8x4x4x4096x4608_S8x4x4x4096_d4 hR h_S_ (ix4 b h g p)).trans ?_
    rw [lowest]
    refine congrArg (fun f => (Finset.univ : Finset (Fin 4608)).fold max ⊥ f) (funext fun s => ?_)
    refine congrArg (val_main_v6 (F := Ideal) x0 x1 x3) (funext fun a => Fin.ext ?_)
    rw [Shape.Reduces.lift_val]
    match a with
    | ⟨0, _⟩ => rfl
    | ⟨1, _⟩ => rfl
    | ⟨2, _⟩ => rfl
    | ⟨3, _⟩ => rfl
    | ⟨4, _⟩ => rfl
  rw [e7]
  exact (congrArg (fun u : EReal => max u (M : EReal)) (lowest _)).trans (max_eq_right bot_le)

/-- The weights the reference gives the keys of a query whose logits are real. -/
theorem weight_eq (b : Fin 8) (h g : Fin 4) (p : Fin 4096) (y : ℕ → ℝ)
    (hy : ∀ s < 4608, logit x0 x1 x3 b h g p s = (y s : EReal)) (M : ℝ)
    (hM : val_main_v9 (F := Ideal) x0 x1 x3 (ix4 b h g p) = (M : EReal)) (s : Fin 4608) :
    val_main_v17 (F := Ideal) x0 x1 x3 (ix5 b h g p s)
      = ((Real.exp (y s.val - M) * (1 / ∑ t ∈ Finset.range 4608, Real.exp (y t - M)) : ℝ) : EReal) := by
  have e13 : ∀ t : Fin 4608, val_main_v13 (F := Ideal) x0 x1 x3 (ix5 b h g p t) = ((Real.exp (y t.val - M) : ℝ) : EReal) := fun t => by
    rw [val_main_v13_apply, val_main_v12_apply, logit_eq, hy t.val t.isLt, val_main_v11_apply, val_main_v10_apply]
    have e : idx_main_v10 (idx_main_v11 (ix5 b h g p t)) = ix4 b h g p := funext fun a => by
      match a with
      | ⟨0, _⟩ => rfl
      | ⟨1, _⟩ => rfl
      | ⟨2, _⟩ => rfl
      | ⟨3, _⟩ => rfl
    rw [e, hM]
    rfl
  have e14 : val_main_v14 (F := Ideal) x0 x1 x3 (ix4 b h g p) = ((∑ t ∈ Finset.range 4608, Real.exp (y t - M) : ℝ) : EReal) := by
    rw [val_main_v14_apply, nothing, zero_add, Finset.sum_range]
    refine (Finset.sum_congr rfl fun t _ => ?_).trans (coe_sum _ _).symm
    refine (congrArg (val_main_v13 (F := Ideal) x0 x1 x3) (funext fun a => ?_)).trans (e13 t)
    match a with
    | ⟨0, _⟩ => rfl
    | ⟨1, _⟩ => rfl
    | ⟨2, _⟩ => rfl
    | ⟨3, _⟩ => rfl
    | ⟨4, _⟩ => rfl
  rw [val_main_v17_apply, e13, val_main_v16_apply, val_main_v15_apply]
  have e : idx_main_v15 (idx_main_v16 (ix5 b h g p s)) = ix4 b h g p := funext fun a => by
    match a with
    | ⟨0, _⟩ => rfl
    | ⟨1, _⟩ => rfl
    | ⟨2, _⟩ => rfl
    | ⟨3, _⟩ => rfl
  rw [e, e14]
  have hpos : (∑ t ∈ Finset.range 4608, Real.exp (y t - M)) ≠ 0 :=
    (Finset.sum_pos (fun t _ => Real.exp_pos _) ⟨0, Finset.mem_range.2 (by norm_num)⟩).ne'
  refine (Ideal.div_coe hpos _).trans ?_
  exact (EReal.coe_mul _ _).symm

/-- A row the reference writes. -/
theorem ref_new (x5 : Vec Ideal S36864x1024 .bf16) (b : Fin 8) (h g : Fin 4) (p : Fin 4096) (d : Fin 64) (y : ℕ → ℝ)
    (hy : ∀ s < 4608, logit x0 x1 x3 b h g p s = (y s : EReal)) :
    ∃ M : ℝ, val_main_v23 (F := Ideal) x0 x1 x2 x3 x4 x5
        (ix2 (⟨4096 + 4096 * b.val + p.val, by omega⟩ : Fin 36864) (⟨256 * h.val + 64 * g.val + d.val, by omega⟩ : Fin 1024))
      = ∑ s ∈ Finset.range 4608, joined x4 x2 b h d s
          * ((Real.exp (y s - M) * (1 / ∑ t ∈ Finset.range 4608, Real.exp (y t - M)) : ℝ) : EReal) := by
  obtain ⟨M, hM⟩ := shift_real x0 x1 x3 b h g p y hy
  refine ⟨M, ?_⟩
  have hb := b.isLt; have hp := p.isLt; have hh := h.isLt; have hg := g.isLt; have hd := d.isLt
  unfold val_main_v23
  refine (concatenate_pair_apply_right (t := S36864x1024) (s₁ := S4096x1024) (s₂ := S32768x1024) 0 _ _
    concatenates_S4096x1024_S32768x1024_S36864x1024_d0 _ rfl rfl (ix2 (⟨4096 * b.val + p.val, by omega⟩ : Fin 32768)
    (⟨256 * h.val + 64 * g.val + d.val, by omega⟩ : Fin 1024)) (fun a ha => ?_) ?_).trans ?_
  · match a with
    | ⟨0, _⟩ => exact absurd rfl ha
    | ⟨1, _⟩ => rfl
  · show 4096 * b.val + p.val + 4096 = 4096 + 4096 * b.val + p.val
    omega
  refine (val_main_v20_apply (F := Ideal) x0 x1 x2 x3 x4 _).trans ?_
  rw [val_main_v19_apply, val_main_v18_apply, Finset.sum_range]
  refine Finset.sum_congr rfl fun s _ => congrArg₂ (fun u v : EReal => u * v) ?_ ?_
  · refine (congrArg (val_main_v1 (F := Ideal) x2 x4) (funext fun a => Fin.ext ?_)).trans (join_apply x4 x2 b s h d)
    match a with
    | ⟨0, _⟩ => show ((4096 * b.val + p.val) * 1024 + (256 * h.val + 64 * g.val + d.val)) / 4194304 = b.val; omega
    | ⟨1, _⟩ => rfl
    | ⟨2, _⟩ => show ((4096 * b.val + p.val) * 1024 + (256 * h.val + 64 * g.val + d.val)) / 256 % 4 = h.val; omega
    | ⟨3, _⟩ => show ((4096 * b.val + p.val) * 1024 + (256 * h.val + 64 * g.val + d.val)) % 64 = d.val; omega
  · refine (congrArg (val_main_v17 (F := Ideal) x0 x1 x3) (funext fun a => Fin.ext ?_)).trans
      (weight_eq x0 x1 x3 b h g p y hy M hM s)
    match a with
    | ⟨0, _⟩ => show ((4096 * b.val + p.val) * 1024 + (256 * h.val + 64 * g.val + d.val)) / 4194304 = b.val; omega
    | ⟨1, _⟩ => show ((4096 * b.val + p.val) * 1024 + (256 * h.val + 64 * g.val + d.val)) / 256 % 4 = h.val; omega
    | ⟨2, _⟩ => show ((4096 * b.val + p.val) * 1024 + (256 * h.val + 64 * g.val + d.val)) / 64 % 4 = g.val; omega
    | ⟨3, _⟩ => show ((4096 * b.val + p.val) * 1024 + (256 * h.val + 64 * g.val + d.val)) / 1024 % 4096 = p.val; omega
    | ⟨4, _⟩ => rfl

/-- A row it keeps. -/
theorem ref_kept (x5 : Vec Ideal S36864x1024 .bf16) (i : S36864x1024.Idx) (hi : (i 0).val < 4096) :
    val_main_v23 (F := Ideal) x0 x1 x2 x3 x4 x5 i = x5 i := by
  unfold val_main_v23
  refine (concatenate_pair_apply_left (t := S36864x1024) (s₁ := S4096x1024) (s₂ := S32768x1024) 0 _ _
    concatenates_S4096x1024_S32768x1024_S36864x1024_d0 _ rfl (ix2 (⟨(i 0).val, hi⟩ : Fin 4096) (⟨(i 1).val, (i 1).isLt⟩ : Fin 1024))
    (fun a => ?_)).trans ?_
  · match a with
    | ⟨0, _⟩ => rfl
    | ⟨1, _⟩ => rfl
  rw [val_main_v21_apply]
  refine congrArg x5 (funext fun a => ?_)
  match a with
  | ⟨0, _⟩ => rfl
  | ⟨1, _⟩ => rfl

end Cert.AttnProof
end
-- ==== Proof.Equation.lean ====
/- The array the attention call leaves is the one its reference computes, where queries and keys are finite. -/
module

public import proofs.«01_k».proof.Defs
public import proofs.«01_k».proof.Proof.Ref
public import proofs.«01_k».proof.Proof.Gen.AttnIdeal.Value
public import proofs.«01_k».proof.Proof.Gen.Pre_finite_scores
public import Idealize.ShloMosaic.Lib.ReduceAll

@[expose] public section

set_option maxRecDepth 16384

noncomputable section

namespace Cert.AttnProof

open Cert.AttnIdeal Cert.AttnIdeal.Gen Idealize.ShloMosaic Idealize.ShloMosaic.ValueIdx Idealize.ShloMosaic.TcCoe

/-- Every entry is a real number. -/
def AllReal {s : Shape} (x : s.Idx → EReal) : Prop := ∀ i, ∃ r : ℝ, x i = (r : EReal)

/-- An extended real whose absolute value is below infinity is real. -/
theorem real_of_below (u : EReal) (h : Ideal.cmp .olt (max u (-u)) (Ideal.ofBits .f32 0x7F800000#32) = 1#1) :
    ∃ r : ℝ, u = (r : EReal) := by
  have e : Ideal.ofBits .f32 0x7F800000#32 = (⊤ : EReal) := by simp [Ideal.ofBits, Ideal.ieee]
  rw [e] at h
  have hlt : max u (-u) < ⊤ := by
    by_contra hn
    simp [Ideal.cmp, hn] at h
  have h1 : u ≠ ⊤ := fun e => by rw [e] at hlt; simp at hlt
  have h2 : u ≠ ⊥ := fun e => by rw [e] at hlt; simp at hlt
  exact ⟨u.toReal, (EReal.coe_toReal h1 h2).symm⟩

/-- An array whose comparisons of absolute value and infinity all say "below" is real. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu = fun _ => 1#1) : AllReal x := by
  haveI : Subsingleton S_.Idx := ⟨fun a b => funext fun k => k.elim0⟩
  intro i
  exact real_of_below _ (Host.reduce_andi_all _ _ hr hu (Shape.Idx.first hu) (congrFun h _) i)

/-- The precondition says that queries, new keys and cached keys are real. -/
theorem real_of_pre [Cert.Pre_finite_scores.Facts] (m : (ℓ : Loc nD τ sig) → Buf (Elt Ideal) ℓ)
    (h : Cert.Pre_AttnIdeal_finite_scores m) (c : Dev nD) :
    AllReal (s := S8x4096x16x64) (m ((c : Thread nD τ).loc main_arg0)) ∧ AllReal (s := S8x4096x4x64) (m ((c : Thread nD τ).loc main_arg1))
      ∧ AllReal (s := S8x512x4x64) (m ((c : Thread nD τ).loc main_arg3)) := by
  obtain ⟨h0, h1, h3⟩ := h c
  dsimp only [Cert.Pre_finite_scores.fn] at h0 h1 h3
  exact ⟨real_of_all _ _ _ _ h0, real_of_all _ _ _ _ h1, real_of_all _ _ _ _ h3⟩

theorem joined_real (x : (⟨4, ![8, 512, 4, 64]⟩ : Shape).Idx → EReal) (y : (⟨4, ![8, 4096, 4, 64]⟩ : Shape).Idx → EReal)
    (hx : AllReal x) (hy : AllReal y) (b : Fin 8) (h : Fin 4) (d : Fin 64) (s : ℕ) : ∃ r : ℝ, joined x y b h d s = (r : EReal) := by
  unfold joined
  split
  · exact hx _
  · split
    · exact hy _
    · exact ⟨0, rfl⟩

section
variable (m : (ℓ : Loc nD τ sig) → Buf (Elt Ideal) ℓ) (c : Dev nD) (t : Fin cfg0.N)

/-- A grid step's score of query `r` of its head `g` and key `s`: only the first 64 lanes count. -/
theorem score_eq (g : Fin 4) (r : Fin 512) (s : ℕ) :
    score (iblk m c 0 t) (iblk m c 1 t) (iblk m c 3 t) (⟨512 * g.val + r.val, by omega⟩ : Fin 2048) s
      = ∑ d : Fin 64, HMul.hMul (α := EReal) (m ((c : Thread nD τ).loc main_arg0) (ix4 (sampleOf t) (queryOf t r) (headOf t g) d)) (factor : EReal)
          * joined (m ((c : Thread nD τ).loc main_arg3)) (m ((c : Thread nD τ).loc main_arg1)) (sampleOf t) (groupOf t) d s := by
  have eq : ∀ d : Fin 128, k0_pay2 (iblk m c 0 t) (ix2 (⟨512 * g.val + r.val, by omega⟩ : Fin 2048) d)
      = HMul.hMul (α := EReal) (V m c main_v1 (ix4 (sampleOf t) (headOf t g) (queryOf t r) d)) (factor : EReal) := fun d => by
    rw [pay2_apply]
    refine congrArg (fun u : EReal => u * (factor : EReal)) ?_
    have e1 : (⟨(512 * g.val + r.val) / 512, by omega⟩ : Fin 4) = g := Fin.ext (by show (512 * g.val + r.val) / 512 = g.val; omega)
    have e2 : (⟨(512 * g.val + r.val) % 512, by omega⟩ : Fin 512) = r := Fin.ext (by show (512 * g.val + r.val) % 512 = r.val; omega)
    rw [← block_queries]
    exact congrArg₂ (fun u v => iblk m c 0 t (ix4 (0 : Fin 1) u v d)) e1 e2
  unfold score
  refine (Fin.sum_univ_add (a := 64) (b := 64) _).trans ?_
  have hz : ∑ d : Fin 64, k0_pay2 (iblk m c 0 t) (ix2 (⟨512 * g.val + r.val, by omega⟩ : Fin 2048) (Fin.natAdd 64 d))
      * row (iblk m c 3 t) (iblk m c 1 t) (Fin.natAdd 64 d) s = 0 := Finset.sum_eq_zero fun d _ => by
    rw [row_keys, dif_neg (by show ¬ 64 + d.val < 64; omega), mul_zero]
  rw [hz, add_zero]
  refine Finset.sum_congr rfl fun d _ => ?_
  have hd : (Fin.castAdd 64 d).val < 64 := d.isLt
  rw [eq, row_keys, dif_pos hd, queries_apply, dif_pos hd]
  rfl

/-- What a grid step writes, at an entry, is the reference's entry there. -/
theorem point_eq (hq : AllReal (s := S8x4096x16x64) (m ((c : Thread nD τ).loc main_arg0)))
    (hk : AllReal (s := S8x4096x4x64) (m ((c : Thread nD τ).loc main_arg1)))
    (hc : AllReal (s := S8x512x4x64) (m ((c : Thread nD τ).loc main_arg3))) (r : Fin 512) (g : Fin 4) (d : Fin 64) :
    quot (state (iblk m c 0 t) (iblk m c 1 t) (iblk m c 2 t) (iblk m c 3 t) (iblk m c 4 t) k0_t1_loop.trips).2 g r d
      = Cert.AttnRefIdeal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
          (ix2 (⟨4096 + 4096 * (sampleOf t).val + (queryOf t r).val, by have := (sampleOf t).isLt; have := (queryOf t r).isLt; omega⟩ : Fin 36864)
            (⟨256 * (groupOf t).val + 64 * g.val + d.val, by have := (groupOf t).isLt; omega⟩ : Fin 1024)) := by
  choose q hq' using fun d => hq (ix4 (sampleOf t) (queryOf t r) (headOf t g) d)
  choose k hk' using fun s d => joined_real (m ((c : Thread nD τ).loc main_arg3)) (m ((c : Thread nD τ).loc main_arg1)) hc hk
    (sampleOf t) (groupOf t) d s
  have hx : ∀ s < 4608, score (iblk m c 0 t) (iblk m c 1 t) (iblk m c 3 t) (⟨512 * g.val + r.val, by omega⟩ : Fin 2048) s
      = ((∑ d : Fin 64, q d * factor * k s d : ℝ) : EReal) := fun s _ => by
    rw [score_eq, coe_sum]
    refine Finset.sum_congr rfl fun d _ => ?_
    rw [hq', hk', EReal.coe_mul, EReal.coe_mul]
  have hy : ∀ s < 4608, logit (m ((c : Thread nD τ).loc main_arg0)) (m ((c : Thread nD τ).loc main_arg1)) (m ((c : Thread nD τ).loc main_arg3))
      (sampleOf t) (groupOf t) g (queryOf t r) s = (((∑ d : Fin 64, k s d * q d) * 8⁻¹ : ℝ) : EReal) := fun s _ => by
    unfold logit
    rw [EReal.coe_mul, coe_sum]
    refine congrArg (fun u : EReal => u * ((8⁻¹ : ℝ) : EReal)) (Finset.sum_congr rfl fun d _ => ?_)
    rw [hk', EReal.coe_mul, ← hq']
    rfl
  have hxy : ∀ s < 4608, Real.log 2 * (∑ d : Fin 64, q d * factor * k s d) = (∑ d : Fin 64, k s d * q d) * 8⁻¹ := fun s _ => by
    have h2 : Real.log 2 ≠ 0 := (Real.log_pos (by norm_num)).ne'
    rw [Finset.mul_sum, Finset.sum_mul]
    refine Finset.sum_congr rfl fun d _ => ?_
    unfold factor
    field_simp
  obtain ⟨M, hM⟩ := ref_new (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (sampleOf t) (groupOf t) g (queryOf t r) d _ hy
  rw [hM, quot_eq _ _ _ _ _ g r d _ _ hx hxy M fun s hs => row_ones m c t _ s hs (by show ¬ 64 + d.val < 64; omega)]
  refine Finset.sum_congr rfl fun s _ => ?_
  rw [row_values m c t _ s (by show d.val < 64; exact d.isLt)]

/-- Where a grid step's entries lie in the array. -/
theorem out_place (y : S512x256.Idx) :
    ((cfg0.win 5).blk t).view.emb y
      = ix2 (⟨4096 + 4096 * (sampleOf t).val + (queryOf t ⟨(y 0).val, (y 0).isLt⟩).val, by
          have := (sampleOf t).isLt; have := (queryOf t ⟨(y 0).val, (y 0).isLt⟩).isLt; omega⟩ : Fin 36864)
        (⟨256 * (groupOf t).val + 64 * ((y 1).val / 64) + (y 1).val % 64, by
          have := (groupOf t).isLt; have h : (y 1).val < 256 := (y 1).isLt; omega⟩ : Fin 1024) := by
  obtain ⟨e0, e1⟩ := index_out t
  have ht : t.val < 256 := steps_eq ▸ t.isLt
  refine funext fun a => Fin.ext ?_
  match a with
  | ⟨0, _⟩ => show win0_5.index t (0 : Fin 2) * 512 + 1 * (y 0).val = 4096 + 4096 * (t.val / 32) + (512 * (t.val % 8) + (y 0).val); omega
  | ⟨1, _⟩ => show win0_5.index t (1 : Fin 2) * 256 + 1 * (y 1).val = 256 * (t.val / 8 % 4) + 64 * ((y 1).val / 64) + (y 1).val % 64; omega

/-- A grid step writes back the whole of its block. -/
theorem cut_whole (X : Vec (F := Ideal) S512x256 .bf16) (r : Fin 512) (j : Fin 256) :
    (cfg0.win 5).cut (grid0.coords t) X (ix2 r j) = X (ix2 r j) := rfl

/-- An entry of what a grid step writes back. -/
theorem written_apply (r : Fin 512) (j : Fin 256) :
    (dats m 0 c).flushed 5 t (ix2 r j)
      = quot (state (iblk m c 0 t) (iblk m c 1 t) (iblk m c 2 t) (iblk m c 3 t) (iblk m c 4 t) k0_t1_loop.trips).2
          (⟨j.val / 64, by omega⟩ : Fin 4) r (⟨j.val % 64, by omega⟩ : Fin 64) := by
  rw [Value.flushed5_A]
  refine (cut_whole t _ r j).trans ?_
  exact out_apply (iblk m c 0 t) (iblk m c 1 t) (iblk m c 2 t) (iblk m c 3 t) (iblk m c 4 t) c (grid0.coords t) (ms0_0 t) (hs0_0 t)
      (ms0_1 t) (hs0_1 t) (ms0_2 t) (hs0_2 t) (ms0_3 t) (hs0_3 t) (ms0_4 t) (hs0_4 t) (ms0_5 t) (hs0_5 t) scM0_0 (Memref.isWhole_whole _)
      scM0_1 (Memref.isWhole_whole _) scM0_2 (Memref.isWhole_whole _) r j

/-- The array after the call is the reference's. -/
theorem array_eq (hq : AllReal (s := S8x4096x16x64) (m ((c : Thread nD τ).loc main_arg0)))
    (hk : AllReal (s := S8x4096x4x64) (m ((c : Thread nD τ).loc main_arg1)))
    (hc : AllReal (s := S8x512x4x64) (m ((c : Thread nD τ).loc main_arg3))) :
    (dats m 0 c).arrAt 5 cfg0.N
      = Cert.AttnRefIdeal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  by_cases hi : ∃ t : Fin cfg0.N, (cfg0.win 5).flush t = true ∧ i ∈ ((cfg0.win 5).blk t).view.set
  · refine ((dats m 0 c).arrAt_eq_piecewise 5 _ (fun t _ => ?_) i).trans (if_pos hi)
    funext y
    obtain ⟨r, j, rfl⟩ : ∃ (r : Fin 512) (j : Fin 256), y = ix2 r j := ⟨y 0, y 1, eq_ix2 y⟩
    refine (written_apply m c t r j).trans ((point_eq m c t hq hk hc _ _ _).trans ?_)
    exact congrArg _ (out_place t (ix2 r j)).symm
  · have hrow : (i 0).val < 4096 := by
      by_contra hn
      have h0 : (i 0).val < 36864 := (i 0).isLt
      have h1 : (i 1).val < 1024 := (i 1).isLt
      obtain ⟨t, htv⟩ : ∃ t : Fin cfg0.N,
          t.val = 32 * (((i 0).val - 4096) / 4096) + 8 * ((i 1).val / 256) + ((i 0).val - 4096) % 4096 / 512 :=
        ⟨⟨_, by rw [steps_eq]; omega⟩, rfl⟩
      have hm := ((cfg0.win 5).blk t).view.emb_mem_set (ix2 (⟨(i 0).val % 512, by omega⟩ : Fin 512) (⟨(i 1).val % 256, by omega⟩ : Fin 256))
      have e : ((cfg0.win 5).blk t).view.emb (ix2 (⟨(i 0).val % 512, by omega⟩ : Fin 512) (⟨(i 1).val % 256, by omega⟩ : Fin 256)) = i := by
        rw [out_place]
        refine funext fun a => Fin.ext ?_
        match a with
        | ⟨0, _⟩ => show 4096 + 4096 * (t.val / 32) + (512 * (t.val % 8) + (i 0).val % 512) = (i 0).val; omega
        | ⟨1, _⟩ => show 256 * (t.val / 8 % 4) + 64 * ((i 1).val % 256 / 64) + (i 1).val % 256 % 64 = (i 1).val; omega
      rw [e] at hm
      exact hi (Exists.intro t (And.intro (flush0_5 t) hm))
    rw [Value.entry5 m c i fun t hf hm => hi ⟨t, hf, hm⟩]
    refine (congrFun (into_eq m c) i).trans ?_
    exact (ref_kept _ _ _ _ _ _ i hrow).symm

end

end Cert.AttnProof
end
-- ==== Proof.ExpertsRun.lean ====
module

public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Ring
public import Idealize.ShloMosaic.Lib.Exec
public import Idealize.ShloMosaic.Lib.Tactic
public import Idealize.ShloMosaic.Lib.Pointwise.Index
public import Idealize.ShloMosaic.Lib.VecWindow
public import Idealize.ShloMosaic.Lib.WholeRead
public import Idealize.ShloMosaic.Lib.WritesUnit

@[expose] public section

set_option maxRecDepth 16384

noncomputable section

namespace Cert.ExpertsProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The number of active blocks, as the table holds it. -/
def count (b2 : Vec F S1 .i32) : BitVec 32 := b2 (Shape.Idx.first (numel1_S1 ▸ Nat.one_pos))

/-- The expert of the step. -/
def word (i : grid0.Coords) (b1 : Vec F S320 .i32) : BitVec 32 :=
  b1 ((Rect.unit (s := S320) (k0_off1 i) S1.size (k0_off1_inb i)).emb (Shape.Idx.first (numel1_S1 ▸ Nat.one_pos)))

/-- The expert of the step before it (of the step itself at the first one). -/
def wordBefore (i : grid0.Coords) (b1 : Vec F S320 .i32) : BitVec 32 :=
  b1 ((Rect.unit (s := S320) (k0_off2 i) S1.size (k0_off2_inb i)).emb (Shape.Idx.first (numel1_S1 ▸ Nat.one_pos)))

/-- Whether the step copies its expert's weights: it is active, and it is the first or its expert is a new one. -/
def opens (i : grid0.Coords) (n w w' : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne w w'))) : BitVec 32) 0#32

/-- One group of 256 columns of a step's gate and up weights, regrouped: the product with the permutation matrix. -/
def groupOf (x1 : Vec F S1x1x1024x2048 .f32) (x5 : Vec F S256x256 .bf16) (o : ℕ)
    (inb : ∀ a, (![0, 0, 0, o] : Fin 4 → ℕ) a + S1x1x1024x256.size a ≤ S1x1x1024x2048.size a) : FVec F S1024x256 .bf16 :=
  k0_pay10 (VecWindow.window x1 ![0, 0, 0, o] S1x1x1024x256.size inb) x5

theorem group_inb (j : Fin 2048) : ∀ a, (![0, 0, 0, 256 * (j.val / 256)] : Fin 4 → ℕ) a + S1x1x1024x256.size a ≤ S1x1x1024x2048.size a := by
  intro a
  have := j.isLt
  fin_cases a
  · show 0 + 1 ≤ 1; omega
  · show 0 + 1 ≤ 1; omega
  · show 0 + 1024 ≤ 1024; omega
  · show 256 * (j.val / 256) + 256 ≤ 2048; omega

/-- The regrouped gate and up weights: gates in the first half of each group of 256 columns, ups in the second. -/
def regrouped (x1 : Vec F S1x1x1024x2048 .f32) (x5 : Vec F S256x256 .bf16) : Vec F S1024x2048 .bf16 := fun y =>
  groupOf x1 x5 (256 * ((y 1).val / 256)) (group_inb (y 1)) (ix2 (y 0) ⟨(y 1).val % 256, Nat.mod_lt _ (by decide)⟩)

/-- The down weights as the scratch buffer holds them. -/
def downOf (x3 : Vec F S1x1x1024x1024 .f32) : Vec F S1024x1024 .bf16 := k0_pay3 x3

/-- Every eighth row of a block of token rows, from row `s`. -/
def strip (x : Vec F S4096x128 .f32) (s : Fin 8) : Vec F S512x128 .f32 := fun z =>
  x (ix2 ⟨8 * (z 0).val + s.val, by have h : (z 0).val < 512 := (z 0).isLt; have := s.isLt; omega⟩ (z 1))

/-- What a block's tokens become, one token to a row, from the eight strips of its rows. -/
def tokensOf (s0 s1 s2 s3 s4 s5 s6 s7 : Vec F S512x128 .f32) (w : Vec F S1024x2048 .bf16) (x2 : Vec F S1x1x1x2048 .f32)
    (d : Vec F S1024x1024 .bf16) (x4 : Vec F S1x1x1x1024 .f32) : FVec F S512x1024 .f32 :=
  k0_pay30 (k0_pay16 s0 s1 s2 s3 s4 s5 s6 s7 w x2) (k0_pay19 (k0_pay17 s0 s1 s2 s3 s4 s5 s6 s7 w x2) (k0_pay18 s0 s1 s2 s3 s4 s5 s6 s7 w x2))
    (k0_pay20 (k0_pay16 s0 s1 s2 s3 s4 s5 s6 s7 w x2)) (k0_pay21 (k0_pay16 s0 s1 s2 s3 s4 s5 s6 s7 w x2)) (k0_pay24 (k0_pay22 (k0_pay16 s0 s1 s2 s3 s4 s5 s6 s7 w x2)) (k0_pay23 (k0_pay16 s0 s1 s2 s3 s4 s5 s6 s7 w x2)))
    (k0_pay25 (k0_pay16 s0 s1 s2 s3 s4 s5 s6 s7 w x2)) (k0_pay26 (k0_pay16 s0 s1 s2 s3 s4 s5 s6 s7 w x2)) (k0_pay27 (k0_pay16 s0 s1 s2 s3 s4 s5 s6 s7 w x2)) (k0_pay28 (k0_pay16 s0 s1 s2 s3 s4 s5 s6 s7 w x2))
    (Scalar.ofBits .f32 0x40E00000#32) (k0_pay29 (F := F)) d x4

/-- What the tokens of the block `x0` become. -/
def tokens (x0 : Vec F S4096x128 .f32) (w : Vec F S1024x2048 .bf16) (x2 : Vec F S1x1x1x2048 .f32)
    (d : Vec F S1024x1024 .bf16) (x4 : Vec F S1x1x1x1024 .f32) : FVec F S512x1024 .f32 :=
  tokensOf (strip x0 0) (strip x0 1) (strip x0 2) (strip x0 3) (strip x0 4) (strip x0 5) (strip x0 6) (strip x0 7) w x2 d x4

/-- The block as it is stored: token `r`'s lanes `128 s` to `128 s + 127` at row `8 r + s`. -/
def stored (v : FVec F S512x1024 .f32) : Vec F S4096x128 .f32 := fun y =>
  v (ix2 ⟨(y 0).val / 8, by have h : (y 0).val < 4096 := (y 0).isLt; omega⟩
    ⟨128 * ((y 0).val % 8) + (y 1).val, by have h : (y 1).val < 128 := (y 1).isLt; omega⟩)

/-- A strip of columns of the tokens, at a row and a lane, is the stored block at the strip's own row. -/
theorem slice_stored (v : FVec F S512x1024 .f32) (s : ℕ) (hs : s < 8) (h : S512x1024.Slices ![0, 128 * s] S512x128)
    (x : S512x128.Idx) (y : S4096x128.Idx) (h0 : (y 0).val = s + 8 * (x 0).val) (h1 : (y 1).val = 0 + 1 * (x 1).val) :
    extractStridedSlice S512x128 ![0, 128 * s] v h x = stored v y := by
  refine congrArg v (funext fun a => Fin.ext ?_)
  fin_cases a
  · show 0 + (x 0).val = (y 0).val / 8; omega
  · show 128 * s + (x 1).val = 128 * ((y 0).val % 8) + (y 1).val
    rw [h0, h1]; omega

/-- A place of the block lies in the strip of its row number's remainder by 8. -/
theorem mem_strip (y : S4096x128.Idx) (s : ℕ) (hs : (y 0).val % 8 = s) (inb) (sp) :
    y ∈ (⟨⟨![s, 0], S512x128.size, ![8, 1], inb⟩, sp⟩ : Rect S4096x128).set := by
  refine (LoadRect.mem_set _).mpr fun a => ?_
  have h0 : (y 0).val < 4096 := (y 0).isLt
  fin_cases a
  · refine ⟨(y 0).val / 8, ?_, ?_⟩
    · show (y 0).val / 8 < 512; omega
    · show (y 0).val = s + 8 * ((y 0).val / 8); omega
  · refine ⟨(y 1).val, (y 1).isLt, ?_⟩
    show (y 1).val = 0 + 1 * (y 1).val; omega

/-- The eight strided stores leave the block as `stored` has it, whatever was there before. -/
theorem read_stored {κ : Kind} {sp : Space} (a : View sig κ sp S4096x128 .f32) (f : a.ty.Contents (Elt F)) (v : FVec F S512x1024 .f32) :
    a.read (Elt F) (a.writes (Elt F) f [
      ⟨⟨⟨![7, 0], S512x128.size, ![8, 1], inb_S4096x128_S512x128_7_0_s_8_1⟩, spos_8_1⟩, extractStridedSlice S512x128 ![0, 896] v slices_S512x1024_o0_896_S512x128⟩,
      ⟨⟨⟨![6, 0], S512x128.size, ![8, 1], inb_S4096x128_S512x128_6_0_s_8_1⟩, spos_8_1⟩, extractStridedSlice S512x128 ![0, 768] v slices_S512x1024_o0_768_S512x128⟩,
      ⟨⟨⟨![5, 0], S512x128.size, ![8, 1], inb_S4096x128_S512x128_5_0_s_8_1⟩, spos_8_1⟩, extractStridedSlice S512x128 ![0, 640] v slices_S512x1024_o0_640_S512x128⟩,
      ⟨⟨⟨![4, 0], S512x128.size, ![8, 1], inb_S4096x128_S512x128_4_0_s_8_1⟩, spos_8_1⟩, extractStridedSlice S512x128 ![0, 512] v slices_S512x1024_o0_512_S512x128⟩,
      ⟨⟨⟨![3, 0], S512x128.size, ![8, 1], inb_S4096x128_S512x128_3_0_s_8_1⟩, spos_8_1⟩, extractStridedSlice S512x128 ![0, 384] v slices_S512x1024_o0_384_S512x128⟩,
      ⟨⟨⟨![2, 0], S512x128.size, ![8, 1], inb_S4096x128_S512x128_2_0_s_8_1⟩, spos_8_1⟩, extractStridedSlice S512x128 ![0, 256] v slices_S512x1024_o0_256_S512x128⟩,
      ⟨⟨⟨![1, 0], S512x128.size, ![8, 1], inb_S4096x128_S512x128_1_0_s_8_1⟩, spos_8_1⟩, extractStridedSlice S512x128 ![0, 128] v slices_S512x1024_o0_128_S512x128⟩,
      ⟨⟨⟨![0, 0], S512x128.size, ![8, 1], inb_S4096x128_S512x128_0_0_s_8_1⟩, spos_8_1⟩, extractStridedSlice S512x128 ![0, 0] v slices_S512x1024_o0_0_S512x128⟩]) = stored v := by
  funext y
  refine View.read_writes_apply_of_pieces a f (stored v) _ (fun p hp x => ?_) y ?_
  · simp only [List.mem_cons, List.not_mem_nil, or_false] at hp
    rcases hp with rfl | rfl | rfl | rfl | rfl | rfl | rfl | rfl
    · exact slice_stored v 7 (by decide) slices_S512x1024_o0_896_S512x128 x _ rfl rfl
    · exact slice_stored v 6 (by decide) slices_S512x1024_o0_768_S512x128 x _ rfl rfl
    · exact slice_stored v 5 (by decide) slices_S512x1024_o0_640_S512x128 x _ rfl rfl
    · exact slice_stored v 4 (by decide) slices_S512x1024_o0_512_S512x128 x _ rfl rfl
    · exact slice_stored v 3 (by decide) slices_S512x1024_o0_384_S512x128 x _ rfl rfl
    · exact slice_stored v 2 (by decide) slices_S512x1024_o0_256_S512x128 x _ rfl rfl
    · exact slice_stored v 1 (by decide) slices_S512x1024_o0_128_S512x128 x _ rfl rfl
    · exact slice_stored v 0 (by decide) slices_S512x1024_o0_0_S512x128 x _ rfl rfl
  · have h : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
    rcases h with h | h | h | h | h | h | h | h
    · exact ⟨_, .head _, mem_strip y 7 h inb_S4096x128_S512x128_7_0_s_8_1 spos_8_1⟩
    · exact ⟨_, .tail _ (.head _), mem_strip y 6 h inb_S4096x128_S512x128_6_0_s_8_1 spos_8_1⟩
    · exact ⟨_, .tail _ (.tail _ (.head _)), mem_strip y 5 h inb_S4096x128_S512x128_5_0_s_8_1 spos_8_1⟩
    · exact ⟨_, .tail _ (.tail _ (.tail _ (.head _))), mem_strip y 4 h inb_S4096x128_S512x128_4_0_s_8_1 spos_8_1⟩
    · exact ⟨_, .tail _ (.tail _ (.tail _ (.tail _ (.head _)))), mem_strip y 3 h inb_S4096x128_S512x128_3_0_s_8_1 spos_8_1⟩
    · exact ⟨_, .tail _ (.tail _ (.tail _ (.tail _ (.tail _ (.head _))))), mem_strip y 2 h inb_S4096x128_S512x128_2_0_s_8_1 spos_8_1⟩
    · exact ⟨_, .tail _ (.tail _ (.tail _ (.tail _ (.tail _ (.tail _ (.head _)))))), mem_strip y 1 h inb_S4096x128_S512x128_1_0_s_8_1 spos_8_1⟩
    · exact ⟨_, .tail _ (.tail _ (.tail _ (.tail _ (.tail _ (.tail _ (.tail _ (.head _))))))), mem_strip y 0 h inb_S4096x128_S512x128_0_0_s_8_1 spos_8_1⟩

/-- A group of columns is the regrouped weights at the group's own columns. -/
theorem group_regrouped (x1 : Vec F S1x1x1024x2048 .f32) (x5 : Vec F S256x256 .bf16) (k : ℕ) (inb) (x : S1024x256.Idx) (y : S1024x2048.Idx)
    (h0 : (y 0).val = 0 + 1 * (x 0).val) (h1 : (y 1).val = 256 * k + 1 * (x 1).val) :
    groupOf x1 x5 (256 * k) inb x = regrouped x1 x5 y := by
  have hx : (x 1).val < 256 := (x 1).isLt
  have e : 256 * ((y 1).val / 256) = 256 * k := by omega
  have go : ∀ o (inb') (_ : o = 256 * k) (z : S1024x256.Idx) (_ : z = x), groupOf x1 x5 (256 * k) inb x = groupOf x1 x5 o inb' z := by
    intro o inb' ho z hz; subst ho; subst hz; rfl
  refine go _ (group_inb (y 1)) e _ (funext fun a => Fin.ext ?_)
  fin_cases a
  · show (y 0).val = (x 0).val; omega
  · show (y 1).val % 256 = (x 1).val; omega

/-- A place of the weights lies in its column's group. -/
theorem mem_group (y : S1024x2048.Idx) (k : ℕ) (hk : (y 1).val / 256 = k) (inb) :
    y ∈ (Rect.unit (s := S1024x2048) ![0, 256 * k] S1024x256.size inb).set := by
  refine (LoadRect.mem_set _).mpr fun a => ?_
  fin_cases a
  · refine ⟨(y 0).val, (y 0).isLt, ?_⟩
    show (y 0).val = 0 + 1 * (y 0).val; omega
  · refine ⟨(y 1).val % 256, ?_, ?_⟩
    · show (y 1).val % 256 < 256; omega
    · show (y 1).val = 256 * k + 1 * ((y 1).val % 256); omega

/-- The eight stores of groups leave the regrouped weights, whatever was there before. -/
theorem read_groups {κ : Kind} {sp : Space} (a : View sig κ sp S1024x2048 .bf16) (f : a.ty.Contents (Elt F))
    (x1 : Vec F S1x1x1024x2048 .f32) (x5 : Vec F S256x256 .bf16) :
    a.read (Elt F) (a.writes (Elt F) f [
      ⟨Rect.unit (s := S1024x2048) ![0, 1792] S1024x256.size inb_S1024x2048_S1024x256_0_1792, groupOf x1 x5 1792 inb_S1x1x1024x2048_S1x1x1024x256_0_0_0_1792⟩,
      ⟨Rect.unit (s := S1024x2048) ![0, 1536] S1024x256.size inb_S1024x2048_S1024x256_0_1536, groupOf x1 x5 1536 inb_S1x1x1024x2048_S1x1x1024x256_0_0_0_1536⟩,
      ⟨Rect.unit (s := S1024x2048) ![0, 1280] S1024x256.size inb_S1024x2048_S1024x256_0_1280, groupOf x1 x5 1280 inb_S1x1x1024x2048_S1x1x1024x256_0_0_0_1280⟩,
      ⟨Rect.unit (s := S1024x2048) ![0, 1024] S1024x256.size inb_S1024x2048_S1024x256_0_1024, groupOf x1 x5 1024 inb_S1x1x1024x2048_S1x1x1024x256_0_0_0_1024⟩,
      ⟨Rect.unit (s := S1024x2048) ![0, 768] S1024x256.size inb_S1024x2048_S1024x256_0_768, groupOf x1 x5 768 inb_S1x1x1024x2048_S1x1x1024x256_0_0_0_768⟩,
      ⟨Rect.unit (s := S1024x2048) ![0, 512] S1024x256.size inb_S1024x2048_S1024x256_0_512, groupOf x1 x5 512 inb_S1x1x1024x2048_S1x1x1024x256_0_0_0_512⟩,
      ⟨Rect.unit (s := S1024x2048) ![0, 256] S1024x256.size inb_S1024x2048_S1024x256_0_256, groupOf x1 x5 256 inb_S1x1x1024x2048_S1x1x1024x256_0_0_0_256⟩,
      ⟨Rect.unit (s := S1024x2048) ![0, 0] S1024x256.size inb_S1024x2048_S1024x256_0_0, groupOf x1 x5 0 inb_S1x1x1024x2048_S1x1x1024x256_0_0_0_0⟩]) = regrouped x1 x5 := by
  funext y
  refine View.read_writes_apply_of_pieces a f (regrouped x1 x5) _ (fun p hp x => ?_) y ?_
  · simp only [List.mem_cons, List.not_mem_nil, or_false] at hp
    rcases hp with rfl | rfl | rfl | rfl | rfl | rfl | rfl | rfl
    · exact group_regrouped x1 x5 7 inb_S1x1x1024x2048_S1x1x1024x256_0_0_0_1792 x _ rfl rfl
    · exact group_regrouped x1 x5 6 inb_S1x1x1024x2048_S1x1x1024x256_0_0_0_1536 x _ rfl rfl
    · exact group_regrouped x1 x5 5 inb_S1x1x1024x2048_S1x1x1024x256_0_0_0_1280 x _ rfl rfl
    · exact group_regrouped x1 x5 4 inb_S1x1x1024x2048_S1x1x1024x256_0_0_0_1024 x _ rfl rfl
    · exact group_regrouped x1 x5 3 inb_S1x1x1024x2048_S1x1x1024x256_0_0_0_768 x _ rfl rfl
    · exact group_regrouped x1 x5 2 inb_S1x1x1024x2048_S1x1x1024x256_0_0_0_512 x _ rfl rfl
    · exact group_regrouped x1 x5 1 inb_S1x1x1024x2048_S1x1x1024x256_0_0_0_256 x _ rfl rfl
    · exact group_regrouped x1 x5 0 inb_S1x1x1024x2048_S1x1x1024x256_0_0_0_0 x _ rfl rfl
  · have hy : (y 1).val < 2048 := (y 1).isLt
    have h : (y 1).val / 256 = 7 ∨ (y 1).val / 256 = 6 ∨ (y 1).val / 256 = 5 ∨ (y 1).val / 256 = 4 ∨ (y 1).val / 256 = 3 ∨ (y 1).val / 256 = 2
        ∨ (y 1).val / 256 = 1 ∨ (y 1).val / 256 = 0 := by omega
    rcases h with h | h | h | h | h | h | h | h
    · exact ⟨_, .head _, mem_group y 7 h inb_S1024x2048_S1024x256_0_1792⟩
    · exact ⟨_, .tail _ (.head _), mem_group y 6 h inb_S1024x2048_S1024x256_0_1536⟩
    · exact ⟨_, .tail _ (.tail _ (.head _)), mem_group y 5 h inb_S1024x2048_S1024x256_0_1280⟩
    · exact ⟨_, .tail _ (.tail _ (.tail _ (.head _))), mem_group y 4 h inb_S1024x2048_S1024x256_0_1024⟩
    · exact ⟨_, .tail _ (.tail _ (.tail _ (.tail _ (.head _)))), mem_group y 3 h inb_S1024x2048_S1024x256_0_768⟩
    · exact ⟨_, .tail _ (.tail _ (.tail _ (.tail _ (.tail _ (.head _))))), mem_group y 2 h inb_S1024x2048_S1024x256_0_512⟩
    · exact ⟨_, .tail _ (.tail _ (.tail _ (.tail _ (.tail _ (.tail _ (.head _)))))), mem_group y 1 h inb_S1024x2048_S1024x256_0_256⟩
    · exact ⟨_, .tail _ (.tail _ (.tail _ (.tail _ (.tail _ (.tail _ (.tail _ (.head _))))))), mem_group y 0 h inb_S1024x2048_S1024x256_0_0⟩

/-- The strided load of every eighth row of a whole buffer. -/
theorem read_strip (a : Memref sig .tc .vmem S4096x128 .f32) (ha : a.IsWhole) (x : Vec F S4096x128 .f32) (s : Fin 8) (inb) :
    a.view.readAt (Elt F) (⟨![s.val, 0], S512x128.size, ![8, 1], inb⟩ : LoadRect S4096x128) (ha.unread x) = strip x s := by
  unfold View.readAt
  rw [ha.read_unread]
  funext z
  refine congrArg x (funext fun b => Fin.ext ?_)
  fin_cases b
  · show s.val + 8 * (z 0).val = 8 * (z 0).val + s.val; omega
  · show 0 + 1 * (z 1).val = (z 1).val; omega

/-- A step past the active blocks writes zeros over its block and touches nothing else. -/
theorem run_off (c : Dev nD) (i : grid0.Coords) (q : PosShare TreeShare)
    (arg1 : Memref sig .tc .smem S320 .i32) (harg1 : arg1.IsWhole) (arg2 : Memref sig .tc .smem S1 .i32) (harg2 : arg2.IsWhole)
    (arg3 : Memref sig .tc .vmem S4096x128 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S256x256 .bf16) (harg8 : arg8.IsWhole)
    (arg9 : Memref sig .tc .vmem S4096x128 .f32) (harg9 : arg9.IsWhole) (arg10 : Memref sig .tc .vmem S1024x2048 .bf16) (harg10 : arg10.IsWhole)
    (arg11 : Memref sig .tc .vmem S1024x1024 .bf16) (harg11 : arg11.IsWhole)
    (b1 : Vec F S320 .i32) (b2 : Vec F S1 .i32)
    (h1 : opens i (count b2) (word i b1) (wordBefore i b1) ≠ 1#1) (h2 : k0_cond2 i (count b2) ≠ 1#1) (h3 : k0_cond3 i (count b2) = 1#1)
    (E : Set ℕ) (K : PUnit → sProp (MT nD τ sig Unit (Elt F) ℕ (UR sig nD τ) ℕ)) :
    iprop(owns (c : Thread nD τ) arg1 q b1 ∗ owns (c : Thread nD τ) arg2 q b2 ∗ (∃ d, owns (c : Thread nD τ) arg9 fullShare d)
        ∗ (iprop(owns (c : Thread nD τ) arg1 q b1 ∗ owns (c : Thread nD τ) arg2 q b2 ∗ owns (c : Thread nD τ) arg9 fullShare (k0_pay9 (F := F))) -∗ K ⟨⟩))
      ⊢ wp frame (wpE (defs₀ (F := F)) Variants.none c none) E
        (cc0_experts i arg1 harg1 arg2 harg2 arg3 harg3 arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton, k0_part3_eq_skeleton, k0_part4_eq_skeleton, k0_part5_eq_skeleton, k0_part6_eq_skeleton]
  unfold owns
  iintro ⟨⟨%g1, %hg1, HT1⟩, ⟨%g2, %hg2, HT2⟩, ⟨%d9, %f9, -, H9⟩, Hk⟩
  obtain rfl := harg1.eq_unread hg1; obtain rfl := harg2.eq_unread hg2
  have e0 : arg2.view.readAt (Elt F) (Rect.unit (s := S1) ![0] S1.size inb_S1_S1_0).toLoadRect (harg2.unread b2) (Shape.Idx.first (numel1_S1 ▸ Nat.one_pos)) = count b2 := by
    rw [View.readAt_full, harg2.read_unread]; rfl
  have e1 : arg1.view.readAt (Elt F) (Rect.unit (s := S320) (k0_off1 i) S1.size (k0_off1_inb i)).toLoadRect (harg1.unread b1) (Shape.Idx.first (numel1_S1 ▸ Nat.one_pos)) = word i b1 := by
    unfold View.readAt; rw [harg1.read_unread]; rfl
  have e2 : arg1.view.readAt (Elt F) (Rect.unit (s := S320) (k0_off2 i) S1.size (k0_off2_inb i)).toLoadRect (harg1.unread b1) (Shape.Idx.first (numel1_S1 ▸ Nat.one_pos)) = wordBefore i b1 := by
    unfold View.readAt; rw [harg1.read_unread]; rfl
  rw [← e0, ← e1, ← e2] at h1; rw [← e0] at h2 h3
  sl_exec (disch := first | exact h2 | exact h3 | exact h1)
  sl_step
  iapply Hk
  isplitl [HT1]
  · iexists _; isplitr; · ipureintro; exact harg1.read_unread _
    iexact HT1
  isplitl [HT2]
  · iexists _; isplitr; · ipureintro; exact harg2.read_unread _
    iexact HT2
  iexists _; isplitr; swap; · iexact H9
  ipureintro; exact View.read_writes_full _ _ _ _ _

set_option maxHeartbeats 4000000 in
/-- An active step of the expert of the step before it: the block is computed with the weights the scratch buffers hold. -/
theorem run_same (c : Dev nD) (i : grid0.Coords) (q : PosShare TreeShare)
    (arg1 : Memref sig .tc .smem S320 .i32) (harg1 : arg1.IsWhole) (arg2 : Memref sig .tc .smem S1 .i32) (harg2 : arg2.IsWhole)
    (arg3 : Memref sig .tc .vmem S4096x128 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S256x256 .bf16) (harg8 : arg8.IsWhole)
    (arg9 : Memref sig .tc .vmem S4096x128 .f32) (harg9 : arg9.IsWhole) (arg10 : Memref sig .tc .vmem S1024x2048 .bf16) (harg10 : arg10.IsWhole)
    (arg11 : Memref sig .tc .vmem S1024x1024 .bf16) (harg11 : arg11.IsWhole)
    (b1 : Vec F S320 .i32) (b2 : Vec F S1 .i32)
    (x0 : Vec F S4096x128 .f32) (x2 : Vec F S1x1x1x2048 .f32) (x4 : Vec F S1x1x1x1024 .f32) (w : Vec F S1024x2048 .bf16) (d : Vec F S1024x1024 .bf16)
    (h1 : opens i (count b2) (word i b1) (wordBefore i b1) ≠ 1#1) (h2 : k0_cond2 i (count b2) = 1#1) (h3 : k0_cond3 i (count b2) ≠ 1#1)
    (E : Set ℕ) (K : PUnit → sProp (MT nD τ sig Unit (Elt F) ℕ (UR sig nD τ) ℕ)) :
    iprop(owns (c : Thread nD τ) arg1 q b1 ∗ owns (c : Thread nD τ) arg2 q b2 ∗ owns (c : Thread nD τ) arg3 fullShare x0 ∗ owns (c : Thread nD τ) arg5 fullShare x2 ∗ owns (c : Thread nD τ) arg7 fullShare x4 ∗ owns (c : Thread nD τ) arg10 fullShare w ∗ owns (c : Thread nD τ) arg11 fullShare d ∗ (∃ d, owns (c : Thread nD τ) arg9 fullShare d)
        ∗ (iprop(owns (c : Thread nD τ) arg1 q b1 ∗ owns (c : Thread nD τ) arg2 q b2 ∗ owns (c : Thread nD τ) arg3 fullShare x0 ∗ owns (c : Thread nD τ) arg5 fullShare x2 ∗ owns (c : Thread nD τ) arg7 fullShare x4 ∗ owns (c : Thread nD τ) arg10 fullShare w ∗ owns (c : Thread nD τ) arg11 fullShare d ∗ owns (c : Thread nD τ) arg9 fullShare (stored (tokens x0 w x2 d x4))) -∗ K ⟨⟩))
      ⊢ wp frame (wpE (defs₀ (F := F)) Variants.none c none) E
        (cc0_experts i arg1 harg1 arg2 harg2 arg3 harg3 arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton, k0_part3_eq_skeleton, k0_part4_eq_skeleton, k0_part5_eq_skeleton, k0_part6_eq_skeleton]
  unfold owns
  iintro ⟨⟨%g1, %hg1, HT1⟩, ⟨%g2, %hg2, HT2⟩, ⟨%f3, %hf3, H3⟩, ⟨%f5, %hf5, H5⟩, ⟨%f7, %hf7, H7⟩, ⟨%f10, %hf10, H10⟩, ⟨%f11, %hf11, H11⟩, ⟨%d9, %f9, -, H9⟩, Hk⟩
  obtain rfl := harg1.eq_unread hg1; obtain rfl := harg2.eq_unread hg2; obtain rfl := harg3.eq_unread hf3; obtain rfl := harg5.eq_unread hf5
  obtain rfl := harg7.eq_unread hf7; obtain rfl := harg10.eq_unread hf10; obtain rfl := harg11.eq_unread hf11
  have e0 : arg2.view.readAt (Elt F) (Rect.unit (s := S1) ![0] S1.size inb_S1_S1_0).toLoadRect (harg2.unread b2) (Shape.Idx.first (numel1_S1 ▸ Nat.one_pos)) = count b2 := by
    rw [View.readAt_full, harg2.read_unread]; rfl
  have e1 : arg1.view.readAt (Elt F) (Rect.unit (s := S320) (k0_off1 i) S1.size (k0_off1_inb i)).toLoadRect (harg1.unread b1) (Shape.Idx.first (numel1_S1 ▸ Nat.one_pos)) = word i b1 := by
    unfold View.readAt; rw [harg1.read_unread]; rfl
  have e2 : arg1.view.readAt (Elt F) (Rect.unit (s := S320) (k0_off2 i) S1.size (k0_off2_inb i)).toLoadRect (harg1.unread b1) (Shape.Idx.first (numel1_S1 ▸ Nat.one_pos)) = wordBefore i b1 := by
    unfold View.readAt; rw [harg1.read_unread]; rfl
  rw [← e0, ← e1, ← e2] at h1; rw [← e0] at h2 h3
  sl_exec (disch := first | exact h2 | exact h3 | exact h1)
  sl_step
  iapply Hk
  isplitl [HT1]
  · iexists _; isplitr; · ipureintro; exact harg1.read_unread _
    iexact HT1
  isplitl [HT2]
  · iexists _; isplitr; · ipureintro; exact harg2.read_unread _
    iexact HT2
  isplitl [H3]
  · iexists _; isplitr; · ipureintro; exact harg3.read_unread _
    iexact H3
  isplitl [H5]
  · iexists _; isplitr; · ipureintro; exact harg5.read_unread _
    iexact H5
  isplitl [H7]
  · iexists _; isplitr; · ipureintro; exact harg7.read_unread _
    iexact H7
  isplitl [H10]
  · iexists _; isplitr; · ipureintro; exact harg10.read_unread _
    iexact H10
  isplitl [H11]
  · iexists _; isplitr; · ipureintro; exact harg11.read_unread _
    iexact H11
  have et : ∀ s0 s1 s2 s3 s4 s5 s6 s7 w' x2' d' x4', s0 = strip x0 0 → s1 = strip x0 1 → s2 = strip x0 2 → s3 = strip x0 3 → s4 = strip x0 4 → s5 = strip x0 5
      → s6 = strip x0 6 → s7 = strip x0 7 → w' = w → x2' = x2 → d' = d → x4' = x4 → stored (tokensOf s0 s1 s2 s3 s4 s5 s6 s7 w' x2' d' x4') = stored (tokens x0 w x2 d x4) := by
    rintro _ _ _ _ _ _ _ _ _ _ _ _ rfl rfl rfl rfl rfl rfl rfl rfl rfl rfl rfl rfl; rfl
  iexists _; isplitr; swap; · iexact H9
  ipureintro
  exact (read_stored arg9.view f9 (tokensOf (arg3.view.readAt (Elt F) (⟨![0, 0], S512x128.size, ![8, 1], inb_S4096x128_S512x128_0_0_s_8_1⟩ : LoadRect S4096x128) (harg3.unread x0))
      (arg3.view.readAt (Elt F) (⟨![1, 0], S512x128.size, ![8, 1], inb_S4096x128_S512x128_1_0_s_8_1⟩ : LoadRect S4096x128) (harg3.unread x0))
      (arg3.view.readAt (Elt F) (⟨![2, 0], S512x128.size, ![8, 1], inb_S4096x128_S512x128_2_0_s_8_1⟩ : LoadRect S4096x128) (harg3.unread x0))
      (arg3.view.readAt (Elt F) (⟨![3, 0], S512x128.size, ![8, 1], inb_S4096x128_S512x128_3_0_s_8_1⟩ : LoadRect S4096x128) (harg3.unread x0))
      (arg3.view.readAt (Elt F) (⟨![4, 0], S512x128.size, ![8, 1], inb_S4096x128_S512x128_4_0_s_8_1⟩ : LoadRect S4096x128) (harg3.unread x0))
      (arg3.view.readAt (Elt F) (⟨![5, 0], S512x128.size, ![8, 1], inb_S4096x128_S512x128_5_0_s_8_1⟩ : LoadRect S4096x128) (harg3.unread x0))
      (arg3.view.readAt (Elt F) (⟨![6, 0], S512x128.size, ![8, 1], inb_S4096x128_S512x128_6_0_s_8_1⟩ : LoadRect S4096x128) (harg3.unread x0))
      (arg3.view.readAt (Elt F) (⟨![7, 0], S512x128.size, ![8, 1], inb_S4096x128_S512x128_7_0_s_8_1⟩ : LoadRect S4096x128) (harg3.unread x0))
      (arg10.view.readAt (Elt F) (Rect.unit (s := S1024x2048) ![0, 0] S1024x2048.size inb_S1024x2048_S1024x2048_0_0).toLoadRect (harg10.unread w)) (arg5.view.readAt (Elt F) (Rect.unit (s := S1x1x1x2048) ![0, 0, 0, 0] S1x1x1x2048.size inb_S1x1x1x2048_S1x1x1x2048_0_0_0_0).toLoadRect (harg5.unread x2)) (arg11.view.readAt (Elt F) (Rect.unit (s := S1024x1024) ![0, 0] S1024x1024.size inb_S1024x1024_S1024x1024_0_0).toLoadRect (harg11.unread d)) (arg7.view.readAt (Elt F) (Rect.unit (s := S1x1x1x1024) ![0, 0, 0, 0] S1x1x1x1024.size inb_S1x1x1x1024_S1x1x1x1024_0_0_0_0).toLoadRect (harg7.unread x4)))).trans
    (et _ _ _ _ _ _ _ _ _ _ _ _ (read_strip arg3 harg3 x0 0 _) (read_strip arg3 harg3 x0 1 _) (read_strip arg3 harg3 x0 2 _) (read_strip arg3 harg3 x0 3 _)
      (read_strip arg3 harg3 x0 4 _) (read_strip arg3 harg3 x0 5 _) (read_strip arg3 harg3 x0 6 _) (read_strip arg3 harg3 x0 7 _)
      ((View.readAt_full _ _ _).trans (harg10.read_unread _)) ((View.readAt_full _ _ _).trans (harg5.read_unread _)) ((View.readAt_full _ _ _).trans (harg11.read_unread _)) ((View.readAt_full _ _ _).trans (harg7.read_unread _)))

set_option maxHeartbeats 8000000 in
/-- An active step of a new expert: its weights are copied into the scratch buffers, then the block is computed with them. -/
theorem run_new (c : Dev nD) (i : grid0.Coords) (q : PosShare TreeShare)
    (arg1 : Memref sig .tc .smem S320 .i32) (harg1 : arg1.IsWhole) (arg2 : Memref sig .tc .smem S1 .i32) (harg2 : arg2.IsWhole)
    (arg3 : Memref sig .tc .vmem S4096x128 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S256x256 .bf16) (harg8 : arg8.IsWhole)
    (arg9 : Memref sig .tc .vmem S4096x128 .f32) (harg9 : arg9.IsWhole) (arg10 : Memref sig .tc .vmem S1024x2048 .bf16) (harg10 : arg10.IsWhole)
    (arg11 : Memref sig .tc .vmem S1024x1024 .bf16) (harg11 : arg11.IsWhole)
    (b1 : Vec F S320 .i32) (b2 : Vec F S1 .i32)
    (x0 : Vec F S4096x128 .f32) (x2 : Vec F S1x1x1x2048 .f32) (x4 : Vec F S1x1x1x1024 .f32)
    (x1 : Vec F S1x1x1024x2048 .f32) (x3 : Vec F S1x1x1024x1024 .f32) (x5 : Vec F S256x256 .bf16)
    (h1 : opens i (count b2) (word i b1) (wordBefore i b1) = 1#1) (h2 : k0_cond2 i (count b2) = 1#1) (h3 : k0_cond3 i (count b2) ≠ 1#1)
    (E : Set ℕ) (K : PUnit → sProp (MT nD τ sig Unit (Elt F) ℕ (UR sig nD τ) ℕ)) :
    iprop(owns (c : Thread nD τ) arg1 q b1 ∗ owns (c : Thread nD τ) arg2 q b2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg9 fullShare d)
        ∗ (iprop(owns (c : Thread nD τ) arg1 q b1 ∗ owns (c : Thread nD τ) arg2 q b2 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare (regrouped x1 x5) ∗ owns (c : Thread nD τ) arg11 fullShare (downOf x3) ∗ owns (c : Thread nD τ) arg9 fullShare (stored (tokens x0 (regrouped x1 x5) x2 (downOf x3) x4))) -∗ K ⟨⟩))
      ⊢ wp frame (wpE (defs₀ (F := F)) Variants.none c none) E
        (cc0_experts i arg1 harg1 arg2 harg2 arg3 harg3 arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton, k0_part3_eq_skeleton, k0_part4_eq_skeleton, k0_part5_eq_skeleton, k0_part6_eq_skeleton]
  unfold owns
  iintro ⟨⟨%g1, %hg1, HT1⟩, ⟨%g2, %hg2, HT2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d9, %f9, -, H9⟩, Hk⟩
  obtain rfl := harg1.eq_unread hg1; obtain rfl := harg2.eq_unread hg2; obtain rfl := harg3.eq_unread hf3; obtain rfl := harg5.eq_unread hf5
  obtain rfl := harg7.eq_unread hf7; obtain rfl := harg4.eq_unread hf4; obtain rfl := harg6.eq_unread hf6; obtain rfl := harg8.eq_unread hf8
  have e0 : arg2.view.readAt (Elt F) (Rect.unit (s := S1) ![0] S1.size inb_S1_S1_0).toLoadRect (harg2.unread b2) (Shape.Idx.first (numel1_S1 ▸ Nat.one_pos)) = count b2 := by
    rw [View.readAt_full, harg2.read_unread]; rfl
  have e1 : arg1.view.readAt (Elt F) (Rect.unit (s := S320) (k0_off1 i) S1.size (k0_off1_inb i)).toLoadRect (harg1.unread b1) (Shape.Idx.first (numel1_S1 ▸ Nat.one_pos)) = word i b1 := by
    unfold View.readAt; rw [harg1.read_unread]; rfl
  have e2 : arg1.view.readAt (Elt F) (Rect.unit (s := S320) (k0_off2 i) S1.size (k0_off2_inb i)).toLoadRect (harg1.unread b1) (Shape.Idx.first (numel1_S1 ▸ Nat.one_pos)) = wordBefore i b1 := by
    unfold View.readAt; rw [harg1.read_unread]; rfl
  rw [← e0, ← e1, ← e2] at h1; rw [← e0] at h2 h3
  sl_exec (disch := first | exact h2 | exact h3 | exact h1)
  sl_step
  iapply Hk
  have a8 : (arg8.view.readAt (Elt F) (Rect.unit (s := S256x256) ![0, 0] S256x256.size inb_S256x256_S256x256_0_0).toLoadRect (harg8.unread x5)) = x5 := (View.readAt_full _ _ _).trans (harg8.read_unread _)
  have a6 : (arg6.view.readAt (Elt F) (Rect.unit (s := S1x1x1024x1024) ![0, 0, 0, 0] S1x1x1024x1024.size inb_S1x1x1024x1024_S1x1x1024x1024_0_0_0_0).toLoadRect (harg6.unread x3)) = x3 := (View.readAt_full _ _ _).trans (harg6.read_unread _)
  have w10 : ∀ f, arg10.view.read (Elt F) (arg10.view.writes (Elt F) f (run_new.sl.H10_8 c arg4 harg4 arg8 harg8 x1 x5)) = regrouped x1 x5 := fun f =>
    (read_groups arg10.view f (arg4.view.read (Elt F) (harg4.unread x1)) (arg8.view.readAt (Elt F) (Rect.unit (s := S256x256) ![0, 0] S256x256.size inb_S256x256_S256x256_0_0).toLoadRect (harg8.unread x5))).trans (by rw [a8, harg4.read_unread])
  have w11 : ∀ f, arg11.view.read (Elt F) (arg11.view.writes (Elt F) f (run_new.sl.H11_1 c arg6 harg6 x3)) = downOf x3 := fun f =>
    (View.read_writes_full _ _ _ _ _).trans (congrArg downOf a6)
  isplitl [HT1]
  · iexists _; isplitr; · ipureintro; exact harg1.read_unread _
    iexact HT1
  isplitl [HT2]
  · iexists _; isplitr; · ipureintro; exact harg2.read_unread _
    iexact HT2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; · ipureintro; exact w10 f10
    iexact H10
  isplitl [H11]
  · iexists _; isplitr; · ipureintro; exact w11 f11
    iexact H11
  have et : ∀ s0 s1 s2 s3 s4 s5 s6 s7 w' x2' d' x4', s0 = strip x0 0 → s1 = strip x0 1 → s2 = strip x0 2 → s3 = strip x0 3 → s4 = strip x0 4 → s5 = strip x0 5
      → s6 = strip x0 6 → s7 = strip x0 7 → w' = (regrouped x1 x5) → x2' = x2 → d' = (downOf x3) → x4' = x4 → stored (tokensOf s0 s1 s2 s3 s4 s5 s6 s7 w' x2' d' x4') = stored (tokens x0 (regrouped x1 x5) x2 (downOf x3) x4) := by
    rintro _ _ _ _ _ _ _ _ _ _ _ _ rfl rfl rfl rfl rfl rfl rfl rfl rfl rfl rfl rfl; rfl
  iexists _; isplitr; swap; · iexact H9
  ipureintro
  exact (read_stored arg9.view f9 (tokensOf (arg3.view.readAt (Elt F) (⟨![0, 0], S512x128.size, ![8, 1], inb_S4096x128_S512x128_0_0_s_8_1⟩ : LoadRect S4096x128) (harg3.unread x0))
      (arg3.view.readAt (Elt F) (⟨![1, 0], S512x128.size, ![8, 1], inb_S4096x128_S512x128_1_0_s_8_1⟩ : LoadRect S4096x128) (harg3.unread x0))
      (arg3.view.readAt (Elt F) (⟨![2, 0], S512x128.size, ![8, 1], inb_S4096x128_S512x128_2_0_s_8_1⟩ : LoadRect S4096x128) (harg3.unread x0))
      (arg3.view.readAt (Elt F) (⟨![3, 0], S512x128.size, ![8, 1], inb_S4096x128_S512x128_3_0_s_8_1⟩ : LoadRect S4096x128) (harg3.unread x0))
      (arg3.view.readAt (Elt F) (⟨![4, 0], S512x128.size, ![8, 1], inb_S4096x128_S512x128_4_0_s_8_1⟩ : LoadRect S4096x128) (harg3.unread x0))
      (arg3.view.readAt (Elt F) (⟨![5, 0], S512x128.size, ![8, 1], inb_S4096x128_S512x128_5_0_s_8_1⟩ : LoadRect S4096x128) (harg3.unread x0))
      (arg3.view.readAt (Elt F) (⟨![6, 0], S512x128.size, ![8, 1], inb_S4096x128_S512x128_6_0_s_8_1⟩ : LoadRect S4096x128) (harg3.unread x0))
      (arg3.view.readAt (Elt F) (⟨![7, 0], S512x128.size, ![8, 1], inb_S4096x128_S512x128_7_0_s_8_1⟩ : LoadRect S4096x128) (harg3.unread x0))
      (arg10.view.readCov (run_new.sl.H10_8 c arg4 harg4 arg8 harg8 x1 x5) (Rect.unit (s := S1024x2048) ![0, 0] S1024x2048.size inb_S1024x2048_S1024x2048_0_0).toLoadRect) (arg5.view.readAt (Elt F) (Rect.unit (s := S1x1x1x2048) ![0, 0, 0, 0] S1x1x1x2048.size inb_S1x1x1x2048_S1x1x1x2048_0_0_0_0).toLoadRect (harg5.unread x2)) (arg11.view.readCov (run_new.sl.H11_1 c arg6 harg6 x3) (Rect.unit (s := S1024x1024) ![0, 0] S1024x1024.size inb_S1024x1024_S1024x1024_0_0).toLoadRect) (arg7.view.readAt (Elt F) (Rect.unit (s := S1x1x1x1024) ![0, 0, 0, 0] S1x1x1x1024.size inb_S1x1x1x1024_S1x1x1x1024_0_0_0_0).toLoadRect (harg7.unread x4)))).trans
    (et _ _ _ _ _ _ _ _ _ _ _ _ (read_strip arg3 harg3 x0 0 _) (read_strip arg3 harg3 x0 1 _) (read_strip arg3 harg3 x0 2 _) (read_strip arg3 harg3 x0 3 _)
      (read_strip arg3 harg3 x0 4 _) (read_strip arg3 harg3 x0 5 _) (read_strip arg3 harg3 x0 6 _) (read_strip arg3 harg3 x0 7 _)
      ((View.readAt_full _ _ _).trans (w10 _)) ((View.readAt_full _ _ _).trans (harg5.read_unread _)) ((View.readAt_full _ _ _).trans (w11 _)) ((View.readAt_full _ _ _).trans (harg7.read_unread _)))

end Cert.ExpertsProof

end
-- ==== Proof.ExpertsFrame.lean ====
module

public import proofs.«01_k».proof.Proof.ExpertsRun
public import Idealize.ShloMosaic.Lib.WordCmp
public import Idealize.ShloMosaic.Lib.Claim

@[expose] public section

set_option maxRecDepth 16384

noncomputable section

namespace Cert.ExpertsProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before the kernel -/

/-- What a core's buffers hold when the kernel is launched. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_pure : (hostOps0 : List (HloOp τ sig (Elt F))).Forall fun op => op.fresh = ∅ := by
  simp only [List.Forall]; repeat' constructor
theorem hostOps0_1_pure : (hostOps0_1 : List (HloOp τ sig (Elt F))).Forall fun op => op.fresh = ∅ := by
  simp only [List.Forall]; repeat' constructor
theorem hostOps0_2_pure : (hostOps0_2 : List (HloOp τ sig (Elt F))).Forall fun op => op.fresh = ∅ := by
  simp only [List.Forall]; repeat' constructor
theorem hostOps0_3_pure : (hostOps0_3 : List (HloOp τ sig (Elt F))).Forall fun op => op.fresh = ∅ := by
  simp only [List.Forall]; repeat' constructor
theorem hostOps0_4_pure : (hostOps0_4 : List (HloOp τ sig (Elt F))).Forall fun op => op.fresh = ∅ := by
  simp only [List.Forall]; repeat' constructor
theorem hostOps0_5_pure : (hostOps0_5 : List (HloOp τ sig (Elt F))).Forall fun op => op.fresh = ∅ := by
  simp only [List.Forall]; repeat' constructor
theorem hostOps0_6_pure : (hostOps0_6 : List (HloOp τ sig (Elt F))).Forall fun op => op.fresh = ∅ := by
  simp only [List.Forall]; repeat' constructor
theorem hostOps0_7_pure : (hostOps0_7 : List (HloOp τ sig (Elt F))).Forall fun op => op.fresh = ∅ := by
  simp only [List.Forall]; repeat' constructor
theorem hostOps0_8_pure : (hostOps0_8 : List (HloOp τ sig (Elt F))).Forall fun op => op.fresh = ∅ := by
  simp only [List.Forall]; repeat' constructor
theorem hostOps0_9_pure : (hostOps0_9 : List (HloOp τ sig (Elt F))).Forall fun op => op.fresh = ∅ := by
  simp only [List.Forall]; repeat' constructor
theorem hostOps0_10_pure : (hostOps0_10 : List (HloOp τ sig (Elt F))).Forall fun op => op.fresh = ∅ := by
  simp only [List.Forall]; repeat' constructor
theorem hostOps0_11_pure : (hostOps0_11 : List (HloOp τ sig (Elt F))).Forall fun op => op.fresh = ∅ := by
  simp only [List.Forall]; repeat' constructor
theorem hostOps0_12_pure : (hostOps0_12 : List (HloOp τ sig (Elt F))).Forall fun op => op.fresh = ∅ := by
  simp only [List.Forall]; repeat' constructor
theorem hostOps0_13_pure : (hostOps0_13 : List (HloOp τ sig (Elt F))).Forall fun op => op.fresh = ∅ := by
  simp only [List.Forall]; repeat' constructor
theorem hostOps0_14_pure : (hostOps0_14 : List (HloOp τ sig (Elt F))).Forall fun op => op.fresh = ∅ := by
  simp only [List.Forall]; repeat' constructor
theorem hostOps0_15_pure : (hostOps0_15 : List (HloOp τ sig (Elt F))).Forall fun op => op.fresh = ∅ := by
  simp only [List.Forall]; repeat' constructor
theorem hostOps0_16_pure : (hostOps0_16 : List (HloOp τ sig (Elt F))).Forall fun op => op.fresh = ∅ := by
  simp only [List.Forall]; repeat' constructor

set_option maxHeartbeats 800000 in
/-- The program is its host lines and then the launch. -/
theorem host_then_launch (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_pure, hostOps0_1_pure, hostOps0_2_pure, hostOps0_3_pure, hostOps0_4_pure, hostOps0_5_pure, hostOps0_6_pure, hostOps0_7_pure, hostOps0_8_pure, hostOps0_9_pure, hostOps0_10_pure, hostOps0_11_pure, hostOps0_12_pure, hostOps0_13_pure, hostOps0_14_pure, hostOps0_15_pure, hostOps0_16_pure⟩) main_chain

/-- The host lines leave argument 0 as it was. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host lines leave argument 1 as it was. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host lines leave argument 2 as it was. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host lines leave argument 3 as it was. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host lines leave argument 4 as it was. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host lines leave argument 5 as it was. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The tables -/

/-- The tables as the launch finds them. -/
def tables : pre0.Contents (Elt F) := fun k => V m 0 (pre0.ref k)

theorem tables_0 : tables m 0 = V m 0 main_v24 := rfl
theorem tables_1 : tables m 1 = V m 0 main_v26 := rfl

/-- Every block's expert is one of the 32. -/
def InRange : Prop := ∀ j : S320.Idx, (BitVec.toNat (V m 0 main_v24 j : BitVec 32)) < 32

theorem word_lt (h : InRange m) (i : grid0.Coords) : (word (F := F) i (tables m 0)).toNat < 32 := by
  rw [tables_0]; exact h _

theorem ix_1 (pf : pre0.Contents (Elt F)) (i : grid0.Coords) : cc0_transform_1 k0_off1_inb numel1_S1 pf i = ![0, (word (F := F) i (pf 0)).toNat, 0, 0] := rfl
theorem ix_2 (pf : pre0.Contents (Elt F)) (i : grid0.Coords) : cc0_transform_2 k0_off1_inb numel1_S1 pf i = ![0, (word (F := F) i (pf 0)).toNat, 0, 0] := rfl
theorem ix_3 (pf : pre0.Contents (Elt F)) (i : grid0.Coords) : cc0_transform_3 k0_off1_inb numel1_S1 pf i = ![0, (word (F := F) i (pf 0)).toNat, 0, 0] := rfl
theorem ix_4 (pf : pre0.Contents (Elt F)) (i : grid0.Coords) : cc0_transform_4 k0_off1_inb numel1_S1 pf i = ![0, (word (F := F) i (pf 0)).toNat, 0, 0] := rfl

/-- With every expert in range, each block of weights lies inside its array. -/
theorem tables_ok (h : InRange m) : ok0 (tables m) := by
  unfold ok0
  refine ⟨fun i => ⟨fun a => ?_, .inl rfl⟩, fun i => ⟨fun a => ?_, .inl rfl⟩, fun i => ⟨fun a => ?_, .inl rfl⟩, fun i => ⟨fun a => ?_, .inl rfl⟩⟩
  · rw [ix_1]
    have hw := word_lt m h i
    fin_cases a
    · show (0 + 1) * 1 ≤ 1; omega
    · show ((word (F := F) i (tables m 0)).toNat + 1) * 1 ≤ 32; omega
    · show (0 + 1) * 1024 ≤ 1024; omega
    · show (0 + 1) * 2048 ≤ 2048; omega
  · rw [ix_2]
    have hw := word_lt m h i
    fin_cases a
    · show (0 + 1) * 1 ≤ 1; omega
    · show ((word (F := F) i (tables m 0)).toNat + 1) * 1 ≤ 32; omega
    · show (0 + 1) * 1 ≤ 1; omega
    · show (0 + 1) * 2048 ≤ 2048; omega
  · rw [ix_3]
    have hw := word_lt m h i
    fin_cases a
    · show (0 + 1) * 1 ≤ 1; omega
    · show ((word (F := F) i (tables m 0)).toNat + 1) * 1 ≤ 32; omega
    · show (0 + 1) * 1024 ≤ 1024; omega
    · show (0 + 1) * 1024 ≤ 1024; omega
  · rw [ix_4]
    have hw := word_lt m h i
    fin_cases a
    · show (0 + 1) * 1 ≤ 1; omega
    · show ((word (F := F) i (tables m 0)).toNat + 1) * 1 ≤ 32; omega
    · show (0 + 1) * 1 ≤ 1; omega
    · show (0 + 1) * 1024 ≤ 1024; omega

/-- The tables, admitted. -/
def adm (h : InRange m) : (pcfg0 (F := F)).Adm := ⟨tables m, tables_ok m h⟩

/-! ## What the steps find and leave -/

variable (a : (pcfg0 (F := F)).Adm)

/-- Window `w`'s block at a step, as the launch finds its array. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The step is one of the active blocks. -/
def Active (t : Fin (cfg0 a).N) : Prop := k0_cond2 (grid0.coords t) (count (F := F) (a.1 1)) = 1#1

instance (t : Fin (cfg0 a).N) : Decidable (Active a t) := by unfold Active; infer_instance

/-- The weights the scratch buffers hold after an active step. -/
def weights (c : Dev nD) (t : Fin (cfg0 a).N) : Vec F S1024x2048 .bf16 := regrouped (iblk m a c 1 t) (iblk m a c 5 t)

/-- and the down weights. -/
def weightsDown (c : Dev nD) (t : Fin (cfg0 a).N) : Vec F S1024x1024 .bf16 := downOf (iblk m a c 3 t)

/-- The block a step leaves: the tokens computed, or zeros past the active blocks. -/
def outAt (c : Dev nD) (t : Fin (cfg0 a).N) : Vec F S4096x128 .f32 :=
  if Active a t then stored (tokens (iblk m a c 0 t) (weights m a c t) (iblk m a c 2 t) (weightsDown m a c t) (iblk m a c 4 t)) else k0_pay9 (F := F)

/-- What the scratch buffers hold before step `n`: after an active step, that step's weights. -/
def Held (c : Dev nD) (n : ℕ) (s0 : Vec F S1024x2048 .bf16) (s1 : Vec F S1024x1024 .bf16) : Prop :=
  ∀ t : Fin (cfg0 a).N, t.val + 1 = n → Active a t → s0 = weights m a c t ∧ s1 = weightsDown m a c t

/-- The scratch buffers, whole. -/
abbrev scr0 : Memref sig .tc .vmem S1024x2048 .bf16 := Memref.whole cc0_scratch0
abbrev scr1 : Memref sig .tc .vmem S1024x1024 .bf16 := Memref.whole cc0_scratch1
/-- The tables, whole. -/
abbrev tab1 : Memref sig .tc .smem S320 .i32 := Memref.whole main_v24
abbrev tab2 : Memref sig .tc .smem S1 .i32 := Memref.whole main_v26

/-- The state between two steps. -/
def Inv (c : Dev nD) (n : ℕ) : sProp (MT nD τ sig Unit (Elt F) ℕ (UR sig nD τ) ℕ) :=
  iprop((owns (c : Thread nD τ) tab1 fullShare.right (a.1 0) ∗ owns (c : Thread nD τ) tab2 fullShare.right (a.1 1))
    ∗ (∃ s0, ∃ s1, ⌜Held m a c n s0 s1⌝ ∗ owns (c : Thread nD τ) scr0 fullShare s0 ∗ owns (c : Thread nD τ) scr1 fullShare s1) ∗ (∃ r, prngReg c r))

/-- The data of the launch. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => outAt m a c t
  Φ t := Inv m a c t.val
  q _ := fullShare
  owed _ := 0

theorem A_eq (c : Dev nD) (w : Fin (cfg0 a).W) : (dats m a 0 c).A w = V m c (Pipeline.arrRef spec0 w) := by
  dsimp only [dats]

theorem after_0 (c : Dev nD) (t : Fin (cfg0 a).N) : (dats m a 0 c).after 0 t = iblk m a c 0 t := by dsimp only [dats]; rfl
theorem after_1 (c : Dev nD) (t : Fin (cfg0 a).N) : (dats m a 0 c).after 1 t = iblk m a c 1 t := by dsimp only [dats]; rfl
theorem after_2 (c : Dev nD) (t : Fin (cfg0 a).N) : (dats m a 0 c).after 2 t = iblk m a c 2 t := by dsimp only [dats]; rfl
theorem after_3 (c : Dev nD) (t : Fin (cfg0 a).N) : (dats m a 0 c).after 3 t = iblk m a c 3 t := by dsimp only [dats]; rfl
theorem after_4 (c : Dev nD) (t : Fin (cfg0 a).N) : (dats m a 0 c).after 4 t = iblk m a c 4 t := by dsimp only [dats]; rfl
theorem after_5 (c : Dev nD) (t : Fin (cfg0 a).N) : (dats m a 0 c).after 5 t = iblk m a c 5 t := by dsimp only [dats]; rfl
theorem after_6 (c : Dev nD) (t : Fin (cfg0 a).N) : (dats m a 0 c).after 6 t = outAt m a c t := by dsimp only [dats]; rfl

/-- Input 0's buffer holds its block at every step. -/
theorem before_0 (c : Dev nD) (t : Fin (cfg0 a).N) (d) : (dats m a 0 c).before 0 t d = iblk m a c 0 t :=
  ((dats m a 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input 1's buffer holds its block at every step. -/
theorem before_1 (c : Dev nD) (t : Fin (cfg0 a).N) (d) : (dats m a 0 c).before 1 t d = iblk m a c 1 t :=
  ((dats m a 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input 2's buffer holds its block at every step. -/
theorem before_2 (c : Dev nD) (t : Fin (cfg0 a).N) (d) : (dats m a 0 c).before 2 t d = iblk m a c 2 t :=
  ((dats m a 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input 3's buffer holds its block at every step. -/
theorem before_3 (c : Dev nD) (t : Fin (cfg0 a).N) (d) : (dats m a 0 c).before 3 t d = iblk m a c 3 t :=
  ((dats m a 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Input 4's buffer holds its block at every step. -/
theorem before_4 (c : Dev nD) (t : Fin (cfg0 a).N) (d) : (dats m a 0 c).before 4 t d = iblk m a c 4 t :=
  ((dats m a 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Input 5's buffer holds its block at every step. -/
theorem before_5 (c : Dev nD) (t : Fin (cfg0 a).N) (d) : (dats m a 0 c).before 5 t d = iblk m a c 5 t :=
  ((dats m a 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

end Cert.ExpertsProof

end
-- ==== Proof.ExpertsLaunch.lean ====
module

public import proofs.«01_k».proof.Proof.ExpertsFrame
public import Idealize.ShloMosaic.Lib.WordCmp
public import Idealize.ShloMosaic.Lib.Claim

@[expose] public section

set_option maxRecDepth 16384

noncomputable section

namespace Cert.ExpertsProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

variable (a : (pcfg0 (F := F)).Adm)

/-! ## The conditions of a step -/

theorem bit_again : ∀ x : BitVec 1, Scalar.cmpi .ne (Scalar.extui x : BitVec 32) 0#32 = x := by decide

theorem bit_cases : ∀ x : BitVec 1, x = 1#1 ∨ x = 0#1 := by decide

theorem coord_eq : ∀ t : Fin grid0.N, (grid0.coords t 0).val = t.val := by decide +kernel

theorem off1_eq : ∀ t : Fin grid0.N, k0_off1 (grid0.coords t) 0 = t.val := by decide +kernel

theorem off2_eq : ∀ t : Fin grid0.N, k0_off2 (grid0.coords t) 0 = t.val - 1 := by decide +kernel

theorem cond2_eq (i : grid0.Coords) (n : BitVec 32) : k0_cond2 i n = Scalar.cmpi .slt (BitVec.ofNat 32 (i 0).val) n := bit_again _

theorem cond3_eq (i : grid0.Coords) (n : BitVec 32) : k0_cond3 i n = Scalar.xori (Scalar.cmpi .slt (BitVec.ofNat 32 (i 0).val) n) 1#1 := bit_again _

/-- One of the two branches is taken: a step computes or it writes zeros. -/
theorem cond3_of_not (i : grid0.Coords) (n : BitVec 32) (h : k0_cond2 i n ≠ 1#1) : k0_cond3 i n = 1#1 := by
  rw [cond2_eq] at h; rw [cond3_eq]
  rcases bit_cases (Scalar.cmpi .slt (BitVec.ofNat 32 (i 0).val) n) with e | e
  · exact absurd e h
  · rw [e]; decide

theorem not_cond3 (i : grid0.Coords) (n : BitVec 32) (h : k0_cond2 i n = 1#1) : k0_cond3 i n ≠ 1#1 := by
  rw [cond2_eq] at h; rw [cond3_eq, h]; decide

theorem idle_false (i : grid0.Coords) (n : BitVec 32) : (!(k0_cond2 i n == 1#1) && !(k0_cond3 i n == 1#1)) = false := by
  by_cases h : k0_cond2 i n = 1#1
  · rw [h]; rfl
  · rw [cond3_of_not i n h]; simp

theorem opens_eq (i : grid0.Coords) (n w w' : BitVec 32) : opens i n w w' = Scalar.andi (k0_cond2 i n)
    (Scalar.ori (Scalar.cmpi .eq (BitVec.ofNat 32 (i 0).val) 0#32) (Scalar.cmpi .ne w w')) := by
  rw [cond2_eq]; exact bit_again _

theorem not_opens_of_not (i : grid0.Coords) (n w w' : BitVec 32) (h : k0_cond2 i n ≠ 1#1) : opens i n w w' ≠ 1#1 := by
  rw [opens_eq]
  rcases bit_cases (k0_cond2 i n) with e | e
  · exact absurd e h
  · rw [e]
    generalize Scalar.ori (Scalar.cmpi .eq (BitVec.ofNat 32 (i 0).val) 0#32) (Scalar.cmpi .ne w w') = x
    revert x; decide

/-- An active step that copies no weights is not the first and has the expert of the step before it. -/
theorem of_not_opens (i : grid0.Coords) (n w w' : BitVec 32) (h : k0_cond2 i n = 1#1) (ho : opens i n w w' ≠ 1#1) :
    BitVec.ofNat 32 (i 0).val ≠ 0#32 ∧ w = w' := by
  rw [opens_eq, h] at ho
  refine ⟨fun e => ho ?_, ?_⟩
  · rw [e]
    generalize Scalar.cmpi .ne w w' = x
    revert x; decide
  · by_contra hne
    refine ho ?_
    have e : Scalar.cmpi .ne w w' = 1#1 := by
      show BitVec.ofBool (w != w') = 1#1
      rw [bne_iff_ne.mpr hne]; rfl
    rw [e]
    generalize Scalar.cmpi .eq (BitVec.ofNat 32 (i 0).val) 0#32 = x
    revert x; decide

/-- The step before an active step is active. -/
theorem active_before (t t' : Fin (cfg0 a).N) (h : t'.val + 1 = t.val) (ha : Active a t) : Active a t' := by
  have hN : t.val < 320 := by have := Nat.lt_of_lt_of_eq t.isLt (show (cfg0 a).N = 320 from N_0); exact this
  unfold Active at ha ⊢
  rw [cond2_eq, coord_eq] at ha ⊢
  generalize count (F := F) (a.1 1) = n at ha ⊢
  have ha' : BitVec.ofBool (decide ((BitVec.ofNat 32 t.val).toInt < n.toInt)) = 1#1 := ha
  show BitVec.ofBool (decide ((BitVec.ofNat 32 t'.val).toInt < n.toInt)) = 1#1
  rw [WordCmp.toInt_ofNat_of_lt (by omega)] at ha' ⊢
  by_cases hlt : ((t.val : ℕ) : Int) < n.toInt
  · rw [decide_eq_true (show ((t'.val : ℕ) : Int) < n.toInt by omega)]; rfl
  · rw [decide_eq_false hlt] at ha'; exact absurd ha' (by decide)

/-- The expert before a step's is the step before's. -/
theorem wordBefore_eq (t t' : Fin (cfg0 a).N) (h : t'.val + 1 = t.val) (b1 : Vec F S320 .i32) :
    wordBefore (F := F) (grid0.coords t) b1 = word (F := F) (grid0.coords t') b1 := by
  refine congrArg b1 (funext fun x => Fin.ext ?_)
  have e1 := off1_eq t'
  have e2 := off2_eq t
  fin_cases x
  show k0_off2 (grid0.coords t) 0 + 1 * 0 = k0_off1 (grid0.coords t') 0 + 1 * 0
  omega

/-! ## The blocks of weights -/

section Blocks
variable (c : Dev nD) (t : Fin (cfg0 a).N)

theorem block_1 (hw : (word (F := F) (grid0.coords t) (a.1 0)).toNat < 32) (p : Fin 1024) (j : Fin 2048) :
    iblk m a c 1 t (ix4 (0 : Fin 1) (0 : Fin 1) p j) = V m c main_arg2 (ix4 (0 : Fin 1) (⟨(word (F := F) (grid0.coords t) (a.1 0)).toNat, hw⟩ : Fin 32) p j) := by
  refine congrArg (V m c main_arg2) (funext fun x => Fin.ext ?_)
  match x with
  | ⟨0, _⟩ => show 0 * 1 + 1 * 0 = 0; omega
  | ⟨1, _⟩ => show (word (F := F) (grid0.coords t) (a.1 0)).toNat * 1 + 1 * 0 = (word (F := F) (grid0.coords t) (a.1 0)).toNat; omega
  | ⟨2, _⟩ => show 0 * 1024 + 1 * p.val = p.val; omega
  | ⟨3, _⟩ => show 0 * 2048 + 1 * j.val = j.val; omega

theorem block_2 (hw : (word (F := F) (grid0.coords t) (a.1 0)).toNat < 32) (p : Fin 1) (j : Fin 2048) :
    iblk m a c 2 t (ix4 (0 : Fin 1) (0 : Fin 1) p j) = V m c main_v3 (ix4 (0 : Fin 1) (⟨(word (F := F) (grid0.coords t) (a.1 0)).toNat, hw⟩ : Fin 32) p j) := by
  refine congrArg (V m c main_v3) (funext fun x => Fin.ext ?_)
  match x with
  | ⟨0, _⟩ => show 0 * 1 + 1 * 0 = 0; omega
  | ⟨1, _⟩ => show (word (F := F) (grid0.coords t) (a.1 0)).toNat * 1 + 1 * 0 = (word (F := F) (grid0.coords t) (a.1 0)).toNat; omega
  | ⟨2, _⟩ => show 0 * 1 + 1 * p.val = p.val; omega
  | ⟨3, _⟩ => show 0 * 2048 + 1 * j.val = j.val; omega

theorem block_3 (hw : (word (F := F) (grid0.coords t) (a.1 0)).toNat < 32) (p : Fin 1024) (j : Fin 1024) :
    iblk m a c 3 t (ix4 (0 : Fin 1) (0 : Fin 1) p j) = V m c main_arg4 (ix4 (0 : Fin 1) (⟨(word (F := F) (grid0.coords t) (a.1 0)).toNat, hw⟩ : Fin 32) p j) := by
  refine congrArg (V m c main_arg4) (funext fun x => Fin.ext ?_)
  match x with
  | ⟨0, _⟩ => show 0 * 1 + 1 * 0 = 0; omega
  | ⟨1, _⟩ => show (word (F := F) (grid0.coords t) (a.1 0)).toNat * 1 + 1 * 0 = (word (F := F) (grid0.coords t) (a.1 0)).toNat; omega
  | ⟨2, _⟩ => show 0 * 1024 + 1 * p.val = p.val; omega
  | ⟨3, _⟩ => show 0 * 1024 + 1 * j.val = j.val; omega

theorem block_4 (hw : (word (F := F) (grid0.coords t) (a.1 0)).toNat < 32) (p : Fin 1) (j : Fin 1024) :
    iblk m a c 4 t (ix4 (0 : Fin 1) (0 : Fin 1) p j) = V m c main_v4 (ix4 (0 : Fin 1) (⟨(word (F := F) (grid0.coords t) (a.1 0)).toNat, hw⟩ : Fin 32) p j) := by
  refine congrArg (V m c main_v4) (funext fun x => Fin.ext ?_)
  match x with
  | ⟨0, _⟩ => show 0 * 1 + 1 * 0 = 0; omega
  | ⟨1, _⟩ => show (word (F := F) (grid0.coords t) (a.1 0)).toNat * 1 + 1 * 0 = (word (F := F) (grid0.coords t) (a.1 0)).toNat; omega
  | ⟨2, _⟩ => show 0 * 1 + 1 * p.val = p.val; omega
  | ⟨3, _⟩ => show 0 * 1024 + 1 * j.val = j.val; omega

theorem block_0 (p : Fin 4096) (j : Fin 128) :
    iblk m a c 0 t (ix2 p j) = V m c main_arg0 (ix2 (⟨4096 * t.val + p.val, by
      have h : t.val < 320 := by have := Nat.lt_of_lt_of_eq t.isLt (show (cfg0 a).N = 320 from N_0); exact this
      omega⟩ : Fin 1310720) j) := by
  have e : (BitVec.ofNat 32 (grid0.coords t 0).val).toNat = t.val := by
    have h : t.val < 320 := by have := Nat.lt_of_lt_of_eq t.isLt (show (cfg0 a).N = 320 from N_0); exact this
    rw [coord_eq, BitVec.toNat_ofNat]; omega
  refine congrArg (V m c main_arg0) (funext fun x => Fin.ext ?_)
  match x with
  | ⟨0, _⟩ => show (BitVec.ofNat 32 (grid0.coords t 0).val).toNat * 4096 + 1 * p.val = 4096 * t.val + p.val; omega
  | ⟨1, _⟩ => show 0 * 128 + 1 * j.val = j.val; omega

theorem block_5 (p q : Fin 256) : iblk m a c 5 t (ix2 p q) = V m c main_v39 (ix2 p q) := by
  refine congrArg (V m c main_v39) (funext fun x => Fin.ext ?_)
  match x with
  | ⟨0, _⟩ => show 0 * 256 + 1 * p.val = p.val; omega
  | ⟨1, _⟩ => show 0 * 256 + 1 * q.val = q.val; omega

end Blocks

theorem index_up (y : S1x1x1024x2048.Idx) : ∃ (p : Fin 1024) (j : Fin 2048), y = ix4 (0 : Fin 1) (0 : Fin 1) p j := ⟨y 2, y 3, funext fun x => by
  match x with
  | ⟨0, _⟩ => exact Subsingleton.elim (α := Fin 1) _ _
  | ⟨1, _⟩ => exact Subsingleton.elim (α := Fin 1) _ _
  | ⟨2, _⟩ => rfl
  | ⟨3, _⟩ => rfl⟩

theorem index_square (y : S256x256.Idx) : ∃ (p : Fin 256) (j : Fin 256), y = ix2 p j := ⟨y 0, y 1, eq_ix2 y⟩

theorem index_down (y : S1x1x1024x1024.Idx) : ∃ (p : Fin 1024) (j : Fin 1024), y = ix4 (0 : Fin 1) (0 : Fin 1) p j := ⟨y 2, y 3, funext fun x => by
  match x with
  | ⟨0, _⟩ => exact Subsingleton.elim (α := Fin 1) _ _
  | ⟨1, _⟩ => exact Subsingleton.elim (α := Fin 1) _ _
  | ⟨2, _⟩ => rfl
  | ⟨3, _⟩ => rfl⟩

/-- The admitted tables name experts in range. -/
theorem word_in (t : Fin (cfg0 a).N) : (word (F := F) (grid0.coords t) (a.1 0)).toNat < 32 := by
  have h := a.2
  change ok0 a.1 at h
  unfold ok0 at h
  have h1 : ((word (F := F) (grid0.coords t) (a.1 0)).toNat + 1) * 1 ≤ 32 := (h.1 (grid0.coords t)).1 1
  omega

theorem same_1 (c : Dev nD) (t t' : Fin (cfg0 a).N) (e : (word (F := F) (grid0.coords t) (a.1 0)).toNat = (word (F := F) (grid0.coords t') (a.1 0)).toNat) (p : Fin 1024) (j : Fin 2048) :
    iblk m a c 1 t' (ix4 (0 : Fin 1) (0 : Fin 1) p j) = iblk m a c 1 t (ix4 (0 : Fin 1) (0 : Fin 1) p j) :=
  (block_1 m a c t' (word_in a t') p j).trans ((congrArg (fun x : Fin 32 => V m c main_arg2 (ix4 (0 : Fin 1) x p j)) (Fin.ext e.symm)).trans (block_1 m a c t (word_in a t) p j).symm)

theorem same_3 (c : Dev nD) (t t' : Fin (cfg0 a).N) (e : (word (F := F) (grid0.coords t) (a.1 0)).toNat = (word (F := F) (grid0.coords t') (a.1 0)).toNat) (p : Fin 1024) (j : Fin 1024) :
    iblk m a c 3 t' (ix4 (0 : Fin 1) (0 : Fin 1) p j) = iblk m a c 3 t (ix4 (0 : Fin 1) (0 : Fin 1) p j) :=
  (block_3 m a c t' (word_in a t') p j).trans ((congrArg (fun x : Fin 32 => V m c main_arg4 (ix4 (0 : Fin 1) x p j)) (Fin.ext e.symm)).trans (block_3 m a c t (word_in a t) p j).symm)

/-- Two steps of one expert have the same weights. -/
theorem weights_same (c : Dev nD) (t t' : Fin (cfg0 a).N) (h : word (F := F) (grid0.coords t) (a.1 0) = word (F := F) (grid0.coords t') (a.1 0)) :
    weights m a c t' = weights m a c t ∧ weightsDown m a c t' = weightsDown m a c t := by
  have e := congrArg BitVec.toNat h
  have e1 : iblk m a c 1 t' = iblk m a c 1 t := funext fun y => by
    obtain ⟨p, j, rfl⟩ := index_up y
    exact same_1 m a c t t' e p j
  have e3 : iblk m a c 3 t' = iblk m a c 3 t := funext fun y => by
    obtain ⟨p, j, rfl⟩ := index_down y
    exact same_3 m a c t t' e p j
  have e5 : iblk m a c 5 t' = iblk m a c 5 t := funext fun y => by
    obtain ⟨p, j, rfl⟩ := index_square y
    exact (block_5 m a c t' p j).trans (block_5 m a c t p j).symm
  exact ⟨congrArg₂ regrouped e1 e5, congrArg downOf e3⟩

/-! ## The body at every step -/

/-- Window 0's buffer at a step. -/
abbrev stg_0 (t : Fin (cfg0 a).N) : Memref sig .tc .vmem S4096x128 .f32 := spec0_0.stage ((cfg0 a).slots t 0)
abbrev hstg_0 (t : Fin (cfg0 a).N) : (stg_0 a t).IsWhole := hstage0_0 (((cfg0 a).slots t 0).cast nbuf0_0)
/-- Window 1's buffer at a step. -/
abbrev stg_1 (t : Fin (cfg0 a).N) : Memref sig .tc .vmem S1x1x1024x2048 .f32 := spec0_1.stage ((cfg0 a).slots t 1)
abbrev hstg_1 (t : Fin (cfg0 a).N) : (stg_1 a t).IsWhole := hstage0_1 (((cfg0 a).slots t 1).cast nbuf0_1)
/-- Window 2's buffer at a step. -/
abbrev stg_2 (t : Fin (cfg0 a).N) : Memref sig .tc .vmem S1x1x1x2048 .f32 := spec0_2.stage ((cfg0 a).slots t 2)
abbrev hstg_2 (t : Fin (cfg0 a).N) : (stg_2 a t).IsWhole := hstage0_2 (((cfg0 a).slots t 2).cast nbuf0_2)
/-- Window 3's buffer at a step. -/
abbrev stg_3 (t : Fin (cfg0 a).N) : Memref sig .tc .vmem S1x1x1024x1024 .f32 := spec0_3.stage ((cfg0 a).slots t 3)
abbrev hstg_3 (t : Fin (cfg0 a).N) : (stg_3 a t).IsWhole := hstage0_3 (((cfg0 a).slots t 3).cast nbuf0_3)
/-- Window 4's buffer at a step. -/
abbrev stg_4 (t : Fin (cfg0 a).N) : Memref sig .tc .vmem S1x1x1x1024 .f32 := spec0_4.stage ((cfg0 a).slots t 4)
abbrev hstg_4 (t : Fin (cfg0 a).N) : (stg_4 a t).IsWhole := hstage0_4 (((cfg0 a).slots t 4).cast nbuf0_4)
/-- Window 5's buffer at a step. -/
abbrev stg_5 (t : Fin (cfg0 a).N) : Memref sig .tc .vmem S256x256 .bf16 := spec0_5.stage ((cfg0 a).slots t 5)
abbrev hstg_5 (t : Fin (cfg0 a).N) : (stg_5 a t).IsWhole := hstage0_5 (((cfg0 a).slots t 5).cast nbuf0_5)
/-- Window 6's buffer at a step. -/
abbrev stg_6 (t : Fin (cfg0 a).N) : Memref sig .tc .vmem S4096x128 .f32 := spec0_6.stage ((cfg0 a).slots t 6)
abbrev hstg_6 (t : Fin (cfg0 a).N) : (stg_6 a t).IsWhole := hstage0_6 (((cfg0 a).slots t 6).cast nbuf0_6)

/-- The body at a step. -/
def bodyAt (t : Fin (cfg0 a).N) : Prog (TpuEff nD τ sig (Elt F) Λ₀ .tc) PUnit :=
  cc0_experts (grid0.coords t) (Memref.whole main_v24) (Memref.isWhole_whole _) (Memref.whole main_v26) (Memref.isWhole_whole _)
    (stg_0 a t) (hstg_0 a t) (stg_1 a t) (hstg_1 a t) (stg_2 a t) (hstg_2 a t) (stg_3 a t) (hstg_3 a t) (stg_4 a t) (hstg_4 a t) (stg_5 a t) (hstg_5 a t) (stg_6 a t) (hstg_6 a t)
    (Memref.whole cc0_scratch0) (Memref.isWhole_whole _) (Memref.whole cc0_scratch1) (Memref.isWhole_whole _)

/-- What the body is given. -/
def bodyPre (c : Dev nD) (t : Fin (cfg0 a).N) : sProp (MT nD τ sig Unit (Elt F) ℕ (UR sig nD τ) ℕ) :=
  iprop((dats m a 0 c).Φ t.castSucc ∗ (dats m a 0 c).owesAt () t.castSucc
    ∗ (∃ d, owns (c : Thread nD τ) (stg_0 a t) fullShare ((dats m a 0 c).before 0 t d))
    ∗ (∃ d, owns (c : Thread nD τ) (stg_1 a t) fullShare ((dats m a 0 c).before 1 t d))
    ∗ (∃ d, owns (c : Thread nD τ) (stg_2 a t) fullShare ((dats m a 0 c).before 2 t d))
    ∗ (∃ d, owns (c : Thread nD τ) (stg_3 a t) fullShare ((dats m a 0 c).before 3 t d))
    ∗ (∃ d, owns (c : Thread nD τ) (stg_4 a t) fullShare ((dats m a 0 c).before 4 t d))
    ∗ (∃ d, owns (c : Thread nD τ) (stg_5 a t) fullShare ((dats m a 0 c).before 5 t d))
    ∗ (∃ d, owns (c : Thread nD τ) (stg_6 a t) fullShare ((dats m a 0 c).before 6 t d)))

/-- What the body gives back. -/
def bodyPost (c : Dev nD) (t : Fin (cfg0 a).N) : sProp (MT nD τ sig Unit (Elt F) ℕ (UR sig nD τ) ℕ) :=
  iprop((dats m a 0 c).Φ t.succ ∗ (dats m a 0 c).owesAt () t.succ
    ∗ owns (c : Thread nD τ) (stg_0 a t) fullShare ((dats m a 0 c).after 0 t)
    ∗ owns (c : Thread nD τ) (stg_1 a t) fullShare ((dats m a 0 c).after 1 t)
    ∗ owns (c : Thread nD τ) (stg_2 a t) fullShare ((dats m a 0 c).after 2 t)
    ∗ owns (c : Thread nD τ) (stg_3 a t) fullShare ((dats m a 0 c).after 3 t)
    ∗ owns (c : Thread nD τ) (stg_4 a t) fullShare ((dats m a 0 c).after 4 t)
    ∗ owns (c : Thread nD τ) (stg_5 a t) fullShare ((dats m a 0 c).after 5 t)
    ∗ owns (c : Thread nD τ) (stg_6 a t) fullShare ((dats m a 0 c).after 6 t))

set_option maxHeartbeats 1600000 in
/-- The body takes each step's state to the next's. -/
theorem sound_body (c : Dev nD) (t : Fin (cfg0 a).N) :
    bodyPre m a c t ⊢ wp frame (wpE (defs₀ (F := F)) Variants.none c none) Set.univ (bodyAt a t) (fun _ => bodyPost m a c t) := by
  unfold bodyPre bodyPost bodyAt
  simp only [before_0, before_1, before_2, before_3, before_4, before_5]
  rw [show (dats m a 0 c).owesAt () t.succ = (dats m a 0 c).owesAt () t.castSucc from rfl,
    after_0, after_1, after_2, after_3, after_4, after_5, after_6]
  rw [show (dats m a 0 c).Φ t.castSucc = Inv m a c t.val from rfl, show (dats m a 0 c).Φ t.succ = Inv m a c (t.val + 1) from rfl]
  unfold Inv
  iintro ⟨⟨⟨HT1, HT2⟩, ⟨%s0, %s1, %hs, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  by_cases h2 : k0_cond2 (grid0.coords t) (count (F := F) (a.1 1)) = 1#1
  · have hact : Active a t := h2
    rw [show outAt m a c t = stored (tokens (iblk m a c 0 t) (weights m a c t) (iblk m a c 2 t) (weightsDown m a c t) (iblk m a c 4 t)) from if_pos hact]
    have hheld : Held m a c (t.val + 1) (weights m a c t) (weightsDown m a c t) := fun t' e _ => by
      obtain rfl : t' = t := Fin.ext (by omega)
      exact ⟨rfl, rfl⟩
    by_cases h1 : opens (grid0.coords t) (count (F := F) (a.1 1)) (word (F := F) (grid0.coords t) (a.1 0)) (wordBefore (F := F) (grid0.coords t) (a.1 0)) = 1#1
    · iapply (run_new c (grid0.coords t) fullShare.right tab1 (Memref.isWhole_whole _) tab2 (Memref.isWhole_whole _) (stg_0 a t) (hstg_0 a t) (stg_1 a t) (hstg_1 a t) (stg_2 a t) (hstg_2 a t) (stg_3 a t) (hstg_3 a t) (stg_4 a t) (hstg_4 a t) (stg_5 a t) (hstg_5 a t) (stg_6 a t) (hstg_6 a t) scr0 (Memref.isWhole_whole _) scr1 (Memref.isWhole_whole _)
        (a.1 0) (a.1 1) (iblk m a c 0 t) (iblk m a c 2 t) (iblk m a c 4 t) (iblk m a c 1 t) (iblk m a c 3 t) (iblk m a c 5 t) h1 h2 (not_cond3 _ _ h2) Set.univ _)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [H6]; · iexists _; iexact H6
      iintro ⟨HT1, HT2, H0, H1, H2, H3, H4, H5, HS0, HS1, H6⟩
      isplitl [HT1 HT2 HS0 HS1 Hg]
      · isplitl [HT1 HT2]
        · isplitl [HT1]; · iexact HT1
          iexact HT2
        isplitl [HS0 HS1]
        · iexists _; iexists _
          isplitr; · ipureintro; exact hheld
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hw : s0 = weights m a c t ∧ s1 = weightsDown m a c t := by
        obtain ⟨hz, he⟩ := of_not_opens _ _ _ _ h2 h1
        have hpos : t.val ≠ 0 := fun e => hz (by rw [coord_eq, e])
        have hlt : t.val - 1 < (cfg0 a).N := by have := t.isLt; omega
        have e' : (⟨t.val - 1, hlt⟩ : Fin (cfg0 a).N).val + 1 = t.val := by show t.val - 1 + 1 = t.val; omega
        obtain ⟨q0, q1⟩ := hs ⟨t.val - 1, hlt⟩ e' (active_before a t _ e' hact)
        obtain ⟨r0, r1⟩ := weights_same m a c t _ (he.trans (wordBefore_eq a t _ e' (a.1 0)))
        exact ⟨q0.trans r0, q1.trans r1⟩
      obtain ⟨rfl, rfl⟩ := hw
      iapply (run_same c (grid0.coords t) fullShare.right tab1 (Memref.isWhole_whole _) tab2 (Memref.isWhole_whole _) (stg_0 a t) (hstg_0 a t) (stg_1 a t) (hstg_1 a t) (stg_2 a t) (hstg_2 a t) (stg_3 a t) (hstg_3 a t) (stg_4 a t) (hstg_4 a t) (stg_5 a t) (hstg_5 a t) (stg_6 a t) (hstg_6 a t) scr0 (Memref.isWhole_whole _) scr1 (Memref.isWhole_whole _)
        (a.1 0) (a.1 1) (iblk m a c 0 t) (iblk m a c 2 t) (iblk m a c 4 t) (weights m a c t) (weightsDown m a c t) h1 h2 (not_cond3 _ _ h2) Set.univ _)
      isplitl [HT1]; · iexact HT1
      isplitl [HT2]; · iexact HT2
      isplitl [H0]; · iexact H0
      isplitl [H2]; · iexact H2
      isplitl [H4]; · iexact H4
      isplitl [HS0]; · iexact HS0
      isplitl [HS1]; · iexact HS1
      isplitl [H6]; · iexists _; iexact H6
      iintro ⟨HT1, HT2, H0, H2, H4, HS0, HS1, H6⟩
      isplitl [HT1 HT2 HS0 HS1 Hg]
      · isplitl [HT1 HT2]
        · isplitl [HT1]; · iexact HT1
          iexact HT2
        isplitl [HS0 HS1]
        · iexists _; iexists _
          isplitr; · ipureintro; exact hheld
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · rw [show outAt m a c t = k0_pay9 (F := F) from if_neg h2]
    iapply (run_off c (grid0.coords t) fullShare.right tab1 (Memref.isWhole_whole _) tab2 (Memref.isWhole_whole _) (stg_0 a t) (hstg_0 a t) (stg_1 a t) (hstg_1 a t) (stg_2 a t) (hstg_2 a t) (stg_3 a t) (hstg_3 a t) (stg_4 a t) (hstg_4 a t) (stg_5 a t) (hstg_5 a t) (stg_6 a t) (hstg_6 a t) scr0 (Memref.isWhole_whole _) scr1 (Memref.isWhole_whole _)
      (a.1 0) (a.1 1) (not_opens_of_not _ _ _ _ h2) h2 (cond3_of_not _ _ h2) Set.univ _)
    isplitl [HT1]; · iexact HT1
    isplitl [HT2]; · iexact HT2
    isplitl [H6]; · iexists _; iexact H6
    iintro ⟨HT1, HT2, H6⟩
    isplitl [HT1 HT2 HS0 HS1 Hg]
    · isplitl [HT1 HT2]
      · isplitl [HT1]; · iexact HT1
        iexact HT2
      isplitl [HS0 HS1]
      · iexists _; iexists _
        isplitr
        · ipureintro
          intro t' e hact
          obtain rfl : t' = t := Fin.ext (by omega)
          exact absurd hact h2
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The kernel's table of bodies has the step's body at the step. -/
theorem defs_row (t : Fin (cfg0 a).N) :
    defs₀ (F := F) .tc (cfg0 a).body ((cfg0 a).bodyArgs t ((cfg0 a).slots t)) = bodyAt a t := by
  unfold defs₀; rw [Defs.onTc_tc]; rfl

theorem body_obligation (c : Dev nD) : BodyObligation (dats (F := F) m a 0 c) (defs₀ (F := F)) Variants.none () Set.univ := fun t => by
  have hidle : idle0 a.1 6 ((pcfg0.gridAt a.1).coords t) = false := idle_false _ _
  rw [bigSep_W0, bigSep_W0, defs_row]
  refine triple_restated (sound_body m a c t) rfl .rfl fun _ => ?_
  unfold bodyPost
  dsimp only
  rw [hidle]

end Cert.ExpertsProof

end
-- ==== Proof.ExpertsEnd.lean ====
module

public import proofs.«01_k».proof.Proof.ExpertsLaunch
public import Idealize.ShloMosaic.Lib.Quiescent
public import Idealize.ShloMosaic.Lib.WordCmp
public import Idealize.ShloMosaic.Lib.Claim

@[expose] public section

set_option maxRecDepth 16384

noncomputable section

namespace Cert.ExpertsProof

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The launch -/

theorem two_tables {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

section Entry
variable (a : (pcfg0 (F := F)).Adm)

/-- The first step starts with the tables and the scratch buffers at any contents. -/
theorem enters (c : Dev nD) : iprop(Pipeline.ΦA (cfg0 a).spec c ∗ Pipeline.ΦT pre0 a.1 c) ⊢ Inv m a c 0 := by
  unfold Inv Pipeline.ΦA Pipeline.ΦT Pipeline.prefHeld
  rw [scopedRest0_eq, two_tables]
  simp only [tab1, tab2, scr0, scr1, owns_whole]
  rw [show owns (c : Thread nD τ) (Memref.whole main_v24) fullShare.right (a.1 0) = iprop(((c.tc : Thread nD τ).loc (pre0.ref 0)) ↦{fullShare.right} a.1 0) from owns_whole ..,
    show owns (c : Thread nD τ) (Memref.whole main_v26) fullShare.right (a.1 1) = iprop(((c.tc : Thread nD τ).loc (pre0.ref 1)) ↦{fullShare.right} a.1 1) from owns_whole ..]
  iintro ⟨⟨⟨⟨%f0, H0⟩, ⟨%f1, H1⟩⟩, Hg⟩, HT1, HT2⟩
  isplitl [HT1 HT2]
  · isplitl [HT1]; · iexact HT1
    iexact HT2
  isplitl [H0 H1]
  · iexists f0; iexists f1
    isplitr
    · ipureintro
      intro t e _
      exact absurd e (Nat.succ_ne_zero _)
    isplitl [H0]; · iexact H0
    iexact H1
  iexact Hg

/-- The last step gives the scratch buffers back. -/
theorem leaves (c : Dev nD) (n : ℕ) : Inv m a c n ⊢ Pipeline.ΦA (cfg0 a).spec c := by
  unfold Inv Pipeline.ΦA
  rw [scopedRest0_eq]
  simp only [tab1, tab2, scr0, scr1, owns_whole]
  iintro ⟨⟨HT1, HT2⟩, ⟨%s0, %s1, %hs, H0, H1⟩, Hg⟩
  iclear HT1
  iclear HT2
  isplitl [H0 H1]
  · isplitl [H0]
    · iexists s0; iexact H0
    iexists s1; iexact H1
  iexact Hg

end Entry

set_option backward.isDefEq.respectTransparency.types false in
/-- The launch: every weakly fair execution terminates with each array at what the steps leave and every counter at zero. -/
theorem run_main (h : InRange m) : θ_run defs (onTc (τ := τ) (main (F := F))) (s₀ m ρ)
    (fun r => Pipeline.FramePost (Pipeline.pin pcfgs fun _ => adm m h) (dats m (adm m h)) 0 (V m) r ∧ r.2.sem = fun _ => 0) :=
  Pipeline.θ_run_frameP_track (Q' := _) pcfgs (fun _ => adm m h) (dats m (adm m h)) (0 : Fin 1) launch0 defs₀ Variants.none m ρ main
    (hbody := fun c => (body_obligation m (adm m h) c).loose) (hshare := fun c => (dats m (adm m h) 0 c).share_full fun _ => rfl)
    (howed := fun _ _ => rfl) (V := V m) (hmain := host_then_launch m Variants.none) (hA := A_eq m (adm m h))
    (hpf := fun c k => by obtain rfl : c = 0 := Subsingleton.elim _ _; rfl)
    (hin := enters m (adm m h)) (hout := fun c => leaves m (adm m h) c _)

/-- The arguments end unchanged, the result ends at what the steps leave, and the counters at zero. -/
theorem run_value (h : InRange m) : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v40) = (dats m (adm m h) 0 c).arrAt 6 (cfg0 (adm m h)).N) ∧ r.2.sem = fun _ => 0) := by
  refine (θ_run defs _ _).mono (fun r hr => ⟨fun c => ?_, hr.2⟩) (run_main m ρ h)
  have hw := (hr.1 c).1
  have hb := (hr.1 c).2
  refine ⟨?_, (hb main_arg1 (Pipeline.mem_restRefs_of main_arg1 (by decide) (show ∀ w : Fin 7, (spec0 w).arr.view.ref ≠ main_arg1 by decide))).trans (V_arg1 m c), ?_,
    (hb main_arg3 (Pipeline.mem_restRefs_of main_arg3 (by decide) (show ∀ w : Fin 7, (spec0 w).arr.view.ref ≠ main_arg3 by decide))).trans (V_arg3 m c), ?_,
    (hb main_arg5 (Pipeline.mem_restRefs_of main_arg5 (by decide) (show ∀ w : Fin 7, (spec0 w).arr.view.ref ≠ main_arg5 by decide))).trans (V_arg5 m c), hw 6⟩
  · exact (hw 0).trans (((dats m (adm m h) 0 c).arrAt_in 0 rfl _).trans ((A_eq m (adm m h) c 0).trans (V_arg0 m c)))
  · exact (hw 1).trans (((dats m (adm m h) 0 c).arrAt_in 1 rfl _).trans ((A_eq m (adm m h) c 1).trans (V_arg2 m c)))
  · exact (hw 3).trans (((dats m (adm m h) 0 c).arrAt_in 3 rfl _).trans ((A_eq m (adm m h) c 3).trans (V_arg4 m c)))

end Cert.ExpertsProof

end
-- ==== Proof.ExpertsValue.lean ====
/- The experts kernel's vector operations over the ideal values, entry by entry: the regrouped weights, the gate and up
   values of a token, the activation, and the token's result. -/
module

public import proofs.«01_k».proof.Proof.ExpertsRun
public import Idealize.ShloMosaic.Lib.Pipeline.Value
public import Idealize.ShloMosaic.Lib.ValueIdx
public import Idealize.ShloMosaic.Lib.ValueLayout
public import Idealize.ShloMosaic.Lib.MatmulPlain
public import Idealize.ShloMosaic.PureOps.IdealRules

@[expose] public section

set_option maxRecDepth 16384

noncomputable section

namespace Cert.ExpertsProof

open Cert.ExpertsIdeal Cert.ExpertsIdeal.Gen Idealize.ShloMosaic

/-- The activation of one gate and one up value: both are kept from going past seven (the up value also below minus
    seven), the gate is multiplied by its own sigmoid at 1.702 times it, and by the up value plus one. -/
def act (g u : EReal) : EReal :=
  (min (Ideal.ofBits .f32 0x40E00000#32) (max (Ideal.ofBits .f32 0xC0E00000#32) u) + Ideal.ofBits .f32 0x3F800000#32)
    * (min g (Ideal.ofBits .f32 0x40E00000#32)
      * Ideal.logistic (Ideal.ofBits .f32 0x3FD9DB23#32 * min g (Ideal.ofBits .f32 0x40E00000#32)))

/-- The activation of a strip of gates and a strip of ups. -/
def piece (g u : FVec Ideal S512x128 .f32) : FVec Ideal S512x128 .bf16 :=
  truncf .bf16 (mulf (addf (minimumf (broadcast S512x128 (Scalar.ofBits .f32 0x40E00000#32))
      (maximumf (broadcast S512x128 (Scalar.ofBits .f32 0xC0E00000#32)) u)) (broadcast S512x128 (Scalar.ofBits .f32 0x3F800000#32)))
    (mulf (minimumf g (broadcast S512x128 (Scalar.ofBits .f32 0x40E00000#32)))
      (logistic (mulf (broadcast S512x128 (Scalar.ofBits .f32 0x3FD9DB23#32))
        (minimumf g (broadcast S512x128 (Scalar.ofBits .f32 0x40E00000#32))))))) bitsLt_bf16_f32

/-- Its entries. -/
theorem piece_apply (g u : FVec Ideal S512x128 .f32) (z : S512x128.Idx) : piece g u z = act (g z) (u z) := rfl

/-- A strip of columns read at an entry. -/
theorem columns_apply (M : FVec Ideal S512x2048 .f32) (o : ℕ) (h : S512x2048.Slices ![0, o] S512x128) (r : Fin 512) (l : Fin 128)
    (b : o + l.val < 2048) : extractStridedSlice S512x128 ![0, o] M h (ix2 r l) = M (ix2 r ⟨o + l.val, b⟩) := by
  refine congrArg M (funext fun a => Fin.ext ?_)
  match a with
  | ⟨0, _⟩ => show 0 + r.val = r.val; omega
  | ⟨1, _⟩ => rfl

/-- Eight strips side by side: column `j` is column `j mod 128` of strip `j / 128`. -/
theorem side_apply (f : Fin 8 → FVec Ideal S512x128 .bf16) (h) (r : Fin 512) (j : Fin 1024) :
    concatenate S512x1024 1 [⟨S512x128, f 0⟩, ⟨S512x128, f 1⟩, ⟨S512x128, f 2⟩, ⟨S512x128, f 3⟩, ⟨S512x128, f 4⟩, ⟨S512x128, f 5⟩,
      ⟨S512x128, f 6⟩, ⟨S512x128, f 7⟩] h (ix2 r j) = f ⟨j.val / 128, by omega⟩ (ix2 r ⟨j.val % 128, by omega⟩) :=
  concatenate_ofFn_apply (t := S512x1024) (s₁ := S512x128) 1 f h rfl 128 rfl (ix2 r j) ⟨j.val / 128, by omega⟩ rfl
    (ix2 r ⟨j.val % 128, by omega⟩) rfl (fun b hb => by
      match b with
      | ⟨0, _⟩ => rfl
      | ⟨1, _⟩ => exact absurd rfl hb)

/-- A matrix product read at an entry. -/
theorem product_apply {M K N : ℕ} {φ₁ φ₂ : FTy} (lhs : FVec Ideal ⟨2, ![M, K]⟩ φ₁) (rhs : FVec Ideal ⟨2, ![K, N]⟩ φ₂)
    (acc : FVec Ideal ⟨2, ![M, N]⟩ .f32) (r : Fin M) (c : Fin N) (h0 : acc (ix2 r c) = 0) :
    FloatOps.matmul (DotDims.plain M K N) none lhs rhs acc (ix2 r c) = ∑ k : Fin K, lhs (ix2 r k) * rhs (ix2 k c) := by
  have e := Ideal.matmul_plain_apply none lhs rhs acc r c
  refine e.trans ?_
  rw [show acc (ValueIdx.ix2 r c) = 0 from h0, zero_add]
  rfl

/-- The bits of zero are zero. -/
theorem zero_bits : Ideal.ofBits .f32 0x00000000#32 = 0 := by
  simp [Ideal.ofBits, Ideal.ieee]

/-- The bits of one are one. -/
theorem one_bits : Ideal.ofBits .f32 0x3F800000#32 = 1 := by
  simp [Ideal.ofBits, Ideal.ieee]
  rw [← EReal.coe_mul, ← EReal.coe_one]
  norm_num

/-- Lane `p mod 128` of row `8 r + p / 128` of a block: entry `p` of its token `r`. -/
def entry (x0 : Vec Ideal S4096x128 .f32) (r : Fin 512) (p : Fin 1024) : EReal :=
  x0 (ix2 ⟨8 * r.val + p.val / 128, by omega⟩ ⟨p.val % 128, by omega⟩)

/-- The gate and up values of a block's tokens. -/
def middle (x0 : Vec Ideal S4096x128 .f32) (w : Vec Ideal S1024x2048 .bf16) (x2 : Vec Ideal S1x1x1x2048 .f32) : FVec Ideal S512x2048 .f32 :=
  k0_pay16 (strip x0 0) (strip x0 1) (strip x0 2) (strip x0 3) (strip x0 4) (strip x0 5) (strip x0 6) (strip x0 7) w x2

/-- They are the products of the tokens with the weights, and the bias. -/
theorem middle_apply (x0 : Vec Ideal S4096x128 .f32) (w : Vec Ideal S1024x2048 .bf16) (x2 : Vec Ideal S1x1x1x2048 .f32)
    (r : Fin 512) (c : Fin 2048) : middle x0 w x2 (ix2 r c) =
      (∑ p : Fin 1024, entry x0 r p * w (ix2 p c)) + x2 (ix4 (0 : Fin 1) (0 : Fin 1) (0 : Fin 1) c) := by
  unfold middle k0_pay16
  refine congrArg₂ (fun a b : EReal => a + b) ((product_apply (φ₁ := .bf16) (φ₂ := .bf16) _ w _ r c zero_bits).trans ?_) ?_
  · refine Finset.sum_congr rfl fun p _ => congrArg (fun a : EReal => a * w (ix2 p c)) ?_
    exact side_apply (fun n => truncf .bf16 (strip x0 n) bitsLt_bf16_f32) _ r p
  · rw [broadcastTo_apply _ broadcasts_S1x2048_S512x2048 (ix2 r c) (ix2 (0 : Fin 1) c) (fun a => by
        match a with
        | ⟨0, _⟩ => rfl
        | ⟨1, _⟩ => rfl),
      shapeCast_apply x2 shapeCasts_S1x1x1x2048_S1x2048 (ix2 (0 : Fin 1) c) (ix4 (0 : Fin 1) (0 : Fin 1) (0 : Fin 1) c) (by
        rw [Shape.rowMajor_val_four, Shape.rowMajor_val_two]
        show ((0 * 1 + 0) * 1 + 0) * 2048 + c.val = 0 * 2048 + c.val
        omega)]

/-- The eight activations' strips. -/
def pieces (M : FVec Ideal S512x2048 .f32) : Fin 8 → FVec Ideal S512x128 .bf16 := fun n => match n with
  | 0 => piece (extractStridedSlice S512x128 ![0, 0] M slices_S512x2048_o0_0_S512x128) (extractStridedSlice S512x128 ![0, 128] M slices_S512x2048_o0_128_S512x128)
  | 1 => piece (extractStridedSlice S512x128 ![0, 256] M slices_S512x2048_o0_256_S512x128) (extractStridedSlice S512x128 ![0, 384] M slices_S512x2048_o0_384_S512x128)
  | 2 => piece (extractStridedSlice S512x128 ![0, 512] M slices_S512x2048_o0_512_S512x128) (extractStridedSlice S512x128 ![0, 640] M slices_S512x2048_o0_640_S512x128)
  | 3 => piece (extractStridedSlice S512x128 ![0, 768] M slices_S512x2048_o0_768_S512x128) (extractStridedSlice S512x128 ![0, 896] M slices_S512x2048_o0_896_S512x128)
  | 4 => piece (extractStridedSlice S512x128 ![0, 1024] M slices_S512x2048_o0_1024_S512x128) (extractStridedSlice S512x128 ![0, 1152] M slices_S512x2048_o0_1152_S512x128)
  | 5 => piece (extractStridedSlice S512x128 ![0, 1280] M slices_S512x2048_o0_1280_S512x128) (extractStridedSlice S512x128 ![0, 1408] M slices_S512x2048_o0_1408_S512x128)
  | 6 => piece (extractStridedSlice S512x128 ![0, 1536] M slices_S512x2048_o0_1536_S512x128) (extractStridedSlice S512x128 ![0, 1664] M slices_S512x2048_o0_1664_S512x128)
  | 7 => piece (extractStridedSlice S512x128 ![0, 1792] M slices_S512x2048_o0_1792_S512x128) (extractStridedSlice S512x128 ![0, 1920] M slices_S512x2048_o0_1920_S512x128)

/-- An activation, of the gate and the up value of its group of columns. -/
theorem pieces_apply (M : FVec Ideal S512x2048 .f32) (n : Fin 8) (r : Fin 512) (l : Fin 128) :
    pieces M n (ix2 r l) = act (M (ix2 r ⟨256 * n.val + l.val, by omega⟩)) (M (ix2 r ⟨256 * n.val + 128 + l.val, by omega⟩)) := by
  match n with
  | 0 => exact (piece_apply _ _ _).trans (congrArg₂ act (columns_apply M 0 _ r l (by omega)) (columns_apply M 128 _ r l (by omega)))
  | 1 => exact (piece_apply _ _ _).trans (congrArg₂ act (columns_apply M 256 _ r l (by omega)) (columns_apply M 384 _ r l (by omega)))
  | 2 => exact (piece_apply _ _ _).trans (congrArg₂ act (columns_apply M 512 _ r l (by omega)) (columns_apply M 640 _ r l (by omega)))
  | 3 => exact (piece_apply _ _ _).trans (congrArg₂ act (columns_apply M 768 _ r l (by omega)) (columns_apply M 896 _ r l (by omega)))
  | 4 => exact (piece_apply _ _ _).trans (congrArg₂ act (columns_apply M 1024 _ r l (by omega)) (columns_apply M 1152 _ r l (by omega)))
  | 5 => exact (piece_apply _ _ _).trans (congrArg₂ act (columns_apply M 1280 _ r l (by omega)) (columns_apply M 1408 _ r l (by omega)))
  | 6 => exact (piece_apply _ _ _).trans (congrArg₂ act (columns_apply M 1536 _ r l (by omega)) (columns_apply M 1664 _ r l (by omega)))
  | 7 => exact (piece_apply _ _ _).trans (congrArg₂ act (columns_apply M 1792 _ r l (by omega)) (columns_apply M 1920 _ r l (by omega)))

/-- A block's tokens: the product of their activations with the down weights, and the bias. -/
theorem tokens_eq (x0 : Vec Ideal S4096x128 .f32) (w : Vec Ideal S1024x2048 .bf16) (x2 : Vec Ideal S1x1x1x2048 .f32)
    (d : Vec Ideal S1024x1024 .bf16) (x4 : Vec Ideal S1x1x1x1024 .f32) : tokens x0 w x2 d x4 =
    addf (matmul (φ₂ := .bf16) dot_S512x1024_S1024x1024_S512x1024_1_0_0_1_n_n none
      (concatenate S512x1024 1 [⟨S512x128, pieces (middle x0 w x2) 0⟩, ⟨S512x128, pieces (middle x0 w x2) 1⟩, ⟨S512x128, pieces (middle x0 w x2) 2⟩,
        ⟨S512x128, pieces (middle x0 w x2) 3⟩, ⟨S512x128, pieces (middle x0 w x2) 4⟩, ⟨S512x128, pieces (middle x0 w x2) 5⟩,
        ⟨S512x128, pieces (middle x0 w x2) 6⟩, ⟨S512x128, pieces (middle x0 w x2) 7⟩]
        concatenates_S512x128_S512x128_S512x128_S512x128_S512x128_S512x128_S512x128_S512x128_S512x1024_d1) d (constant S512x1024 .f32 0x00000000#32))
      (broadcastTo S512x1024 (shapeCast S1x1024 x4 shapeCasts_S1x1x1x1024_S1x1024) broadcasts_S1x1024_S512x1024) := by
  unfold tokens tokensOf k0_pay17 k0_pay18
  rw [show k0_pay16 (strip x0 0) (strip x0 1) (strip x0 2) (strip x0 3) (strip x0 4) (strip x0 5) (strip x0 6) (strip x0 7) w x2
    = middle x0 w x2 from rfl]
  generalize middle x0 w x2 = M
  unfold k0_pay30 k0_pay19 k0_pay20 k0_pay21 k0_pay22 k0_pay23 k0_pay24 k0_pay25 k0_pay26 k0_pay27 k0_pay28 k0_pay29
  rfl

/-- One entry of a token's result. -/
theorem tokens_apply (x0 : Vec Ideal S4096x128 .f32) (w : Vec Ideal S1024x2048 .bf16) (x2 : Vec Ideal S1x1x1x2048 .f32)
    (d : Vec Ideal S1024x1024 .bf16) (x4 : Vec Ideal S1x1x1x1024 .f32) (r : Fin 512) (j : Fin 1024) : tokens x0 w x2 d x4 (ix2 r j) =
    (∑ q : Fin 1024, act (middle x0 w x2 (ix2 r ⟨256 * (q.val / 128) + q.val % 128, by omega⟩))
      (middle x0 w x2 (ix2 r ⟨256 * (q.val / 128) + 128 + q.val % 128, by omega⟩)) * d (ix2 q j))
      + x4 (ix4 (0 : Fin 1) (0 : Fin 1) (0 : Fin 1) j) := by
  rw [tokens_eq]
  generalize middle x0 w x2 = M
  refine congrArg₂ (fun a b : EReal => a + b) ((product_apply (φ₁ := .bf16) (φ₂ := .bf16) _ d _ r j zero_bits).trans ?_) ?_
  · refine Finset.sum_congr rfl fun q _ => congrArg (fun a : EReal => a * d (ix2 q j)) ?_
    exact (side_apply (pieces M) _ r q).trans (pieces_apply M _ r _)
  · rw [broadcastTo_apply _ broadcasts_S1x1024_S512x1024 (ix2 r j) (ix2 (0 : Fin 1) j) (fun a => by
        match a with
        | ⟨0, _⟩ => rfl
        | ⟨1, _⟩ => rfl),
      shapeCast_apply x4 shapeCasts_S1x1x1x1024_S1x1024 (ix2 (0 : Fin 1) j) (ix4 (0 : Fin 1) (0 : Fin 1) (0 : Fin 1) j) (by
        rw [Shape.rowMajor_val_four, Shape.rowMajor_val_two]
        show ((0 * 1 + 0) * 1 + 0) * 1024 + j.val = 0 * 1024 + j.val
        omega)]

/-- The down weights are copied as they are. -/
theorem downOf_apply (x3 : Vec Ideal S1x1x1024x1024 .f32) (q j : Fin 1024) :
    downOf x3 (ix2 q j) = x3 (ix4 (0 : Fin 1) (0 : Fin 1) q j) := by
  unfold downOf k0_pay3
  rw [shapeCast_apply _ shapeCasts_S1024x1024_S1024x1024 (ix2 q j) (ix2 q j) rfl]
  exact shapeCast_apply x3 shapeCasts_S1x1x1024x1024_S1024x1024 (ix2 q j) (ix4 (0 : Fin 1) (0 : Fin 1) q j) (by
    rw [Shape.rowMajor_val_four, Shape.rowMajor_val_two]
    show ((0 * 1 + 0) * 1024 + q.val) * 1024 + j.val = q.val * 1024 + j.val
    omega)

/-- Where column `z` of a group of 256 comes from: the even ones first, the odd ones after them. -/
def source (z : ℕ) : ℕ := if z < 128 then 2 * z else 2 * (z - 128) + 1

theorem source_lt (z : ℕ) (h : z < 256) : source z < 256 := by
  unfold source; split <;> omega

/-- Where column `c` of the regrouped weights comes from. -/
def origin (c : Fin 2048) : Fin 2048 := ⟨256 * (c.val / 256) + source (c.val % 256), by
  have := source_lt (c.val % 256) (Nat.mod_lt _ (by decide)); omega⟩

/-- A regrouped column, as the sum over its group of 256. -/
theorem regrouped_sum (x1 : Vec Ideal S1x1x1024x2048 .f32) (x5 : Vec Ideal S256x256 .bf16) (p : Fin 1024) (c : Fin 2048) :
    regrouped x1 x5 (ix2 p c) = ∑ q : Fin 256, x1 (ix4 (0 : Fin 1) (0 : Fin 1) p ⟨256 * (c.val / 256) + q.val, by omega⟩)
      * x5 (ix2 q ⟨c.val % 256, by omega⟩) := by
  show groupOf x1 x5 (256 * (c.val / 256)) (group_inb c) (ix2 p ⟨c.val % 256, by omega⟩) = _
  unfold groupOf k0_pay10
  rw [shapeCast_apply _ shapeCasts_S1024x256_S1024x256 (ix2 p ⟨c.val % 256, by omega⟩) (ix2 p ⟨c.val % 256, by omega⟩) rfl]
  refine (product_apply (φ₁ := .bf16) (φ₂ := .bf16) _ _ _ p ⟨c.val % 256, by omega⟩ zero_bits).trans ?_
  refine Finset.sum_congr rfl fun q _ => congrArg₂ (fun a b : EReal => a * b) ?_ ?_
  · refine (shapeCast_apply (VecWindow.window x1 ![0, 0, 0, 256 * (c.val / 256)] S1x1x1024x256.size (group_inb c))
      shapeCasts_S1x1x1024x256_S1024x256 (ix2 p q) (ix4 (0 : Fin 1) (0 : Fin 1) p q) (by
        rw [Shape.rowMajor_val_four, Shape.rowMajor_val_two]
        show ((0 * 1 + 0) * 1024 + p.val) * 256 + q.val = p.val * 256 + q.val
        omega)).trans ?_
    refine congrArg x1 (funext fun a => Fin.ext ?_)
    match a with
    | ⟨0, _⟩ => rfl
    | ⟨1, _⟩ => rfl
    | ⟨2, _⟩ => show 0 + 1 * p.val = p.val; omega
    | ⟨3, _⟩ => show 256 * (c.val / 256) + 1 * q.val = 256 * (c.val / 256) + q.val; omega
  · exact shapeCast_apply x5 shapeCasts_S256x256_S256x256 (ix2 q ⟨c.val % 256, by omega⟩) (ix2 q ⟨c.val % 256, by omega⟩) rfl

/-- With the permutation matrix, a regrouped column is the column it comes from. -/
theorem regrouped_apply (x1 : Vec Ideal S1x1x1024x2048 .f32) (x5 : Vec Ideal S256x256 .bf16)
    (h5 : ∀ q z : Fin 256, x5 (ix2 q z) = if q.val = source z.val then (1 : EReal) else 0) (p : Fin 1024) (c : Fin 2048) :
    regrouped x1 x5 (ix2 p c) = x1 (ix4 (0 : Fin 1) (0 : Fin 1) p (origin c)) := by
  rw [regrouped_sum, Finset.sum_eq_single (⟨source (c.val % 256), source_lt _ (Nat.mod_lt _ (by decide))⟩ : Fin 256)]
  · rw [h5, if_pos rfl, mul_one]; rfl
  · intro q _ hq
    rw [h5, if_neg (fun e => hq (Fin.ext e)), mul_zero]
  · intro h; exact absurd (Finset.mem_univ _) h

/-- Gates are the even columns, ups the odd ones. -/
theorem origin_gate (q : Fin 1024) : origin ⟨256 * (q.val / 128) + q.val % 128, by omega⟩ = ⟨2 * q.val, by omega⟩ := by
  refine Fin.ext ?_
  show 256 * ((256 * (q.val / 128) + q.val % 128) / 256) + source ((256 * (q.val / 128) + q.val % 128) % 256) = 2 * q.val
  rw [show (256 * (q.val / 128) + q.val % 128) % 256 = q.val % 128 by omega]
  unfold source; rw [if_pos (by omega)]; omega

/-- Gates are the even columns, ups the odd ones. -/
theorem origin_up (q : Fin 1024) : origin ⟨256 * (q.val / 128) + 128 + q.val % 128, by omega⟩ = ⟨2 * q.val + 1, by omega⟩ := by
  refine Fin.ext ?_
  show 256 * ((256 * (q.val / 128) + 128 + q.val % 128) / 256) + source ((256 * (q.val / 128) + 128 + q.val % 128) % 256) = 2 * q.val + 1
  rw [show (256 * (q.val / 128) + 128 + q.val % 128) % 256 = 128 + q.val % 128 by omega]
  unfold source; rw [if_neg (by omega)]; omega

end Cert.ExpertsProof

end

end
-- ==== Proof.ExpertsHost.lean ====
/- The arrays the host prepares for the experts' call: the bias of the gate and up weights regrouped, the other bias
   reshaped, and the square of zeros and ones that regroups the weights' columns. -/
module

public import proofs.«01_k».proof.Proof.ExpertsFrame
public import proofs.«01_k».proof.Proof.ExpertsValue

@[expose] public section

set_option maxRecDepth 16384

noncomputable section

namespace Cert.ExpertsProof

open Cert.ExpertsIdeal Cert.ExpertsIdeal.Gen
open Idealize.ShloMosaic Idealize.ShloMosaic.TcCoe Idealize.ShloMosaic.Tactic

/-- The host's remainder by two of a word, as the program spells it. -/
def remTwo (w : BitVec 32) : BitVec 32 :=
  let d := Scalar.select (IntOp.cmpi .eq 2#32 0#32) 1#32 2#32
  let r := IntOp.remsi .host w d
  Scalar.select (IntOp.andi (IntOp.cmpi .ne (IntOp.cmpi .slt r 0#32) (IntOp.cmpi .slt d 0#32)) (IntOp.cmpi .ne r 0#32)) (IntOp.addi r d) r

/-- The sign of a word. -/
def signOf (w : BitVec 32) : BitVec 32 := if w = 0 then 0 else if w.msb then -1 else 1

/-- The host's quotient by two of a word, rounded down, as the program spells it. -/
def halfOf (w : BitVec 32) : BitVec 32 :=
  Scalar.select (IntOp.andi (IntOp.cmpi .ne (signOf w) (signOf 2#32)) (IntOp.cmpi .ne (IntOp.remsi .host w 2#32) 0#32))
    (IntOp.subi (IntOp.divsi .host w 2#32) 1#32) (IntOp.divsi .host w 2#32)

/-- The column a row of the square has its one in: even rows in the first half, odd rows in the second. -/
def column (w : BitVec 32) : BitVec 32 :=
  Scalar.select (IntOp.cmpi .eq (remTwo w) 0#32) (halfOf w) (IntOp.addi 128#32 (halfOf w))

/-- Its value at the 256 rows. -/
theorem column_eq : ∀ q : Fin 256, column (BitVec.ofNat 32 q.val) = BitVec.ofNat 32 (if q.val % 2 = 0 then q.val / 2 else 128 + q.val / 2) := by
  decide

variable (m : (ℓ : Loc nD τ sig) → Buf (Elt Ideal) ℓ) (c : Dev nD)

set_option maxHeartbeats 4000000 in
/-- The square as the call finds it. -/
theorem square_eq (q z : Fin 256) : V m c main_v39 (ix2 q z)
    = Scalar.select (IntOp.cmpi .eq (BitVec.ofNat 32 z.val) (column (BitVec.ofNat 32 q.val)))
        (Ideal.ofBits .f32 0x3F800000#32) (Ideal.ofBits .f32 0x00000000#32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  simp only [StableHlo.TRef.ofBuf, StableHlo.TRef.toBuf, StableHlo.TRef.of, cast_eq, eqRec_eq_cast, id]
  rfl

/-- Its entries: one where the row is the column's source. -/
theorem square_apply (q z : Fin 256) : (V m c main_v39 : Vec Ideal S256x256 .bf16) (ix2 q z) = if q.val = source z.val then (1 : EReal) else 0 := by
  refine (square_eq m c q z).trans ?_
  rw [ column_eq, one_bits, zero_bits]
  have hq := q.isLt
  have hz := z.isLt
  by_cases h : q.val = source z.val
  · rw [if_pos h]
    have e : z.val = (if q.val % 2 = 0 then q.val / 2 else 128 + q.val / 2) := by
      unfold source at h; split at h <;> split <;> omega
    rw [← e]
    rw [show IntOp.cmpi .eq (BitVec.ofNat 32 z.val) (BitVec.ofNat 32 z.val) = 1#1 by simp [IntOp.cmpi]]
    rfl
  · rw [if_neg h]
    have e : z.val ≠ (if q.val % 2 = 0 then q.val / 2 else 128 + q.val / 2) := by
      intro e; apply h; unfold source; split at e <;> split <;> omega
    have e2 : BitVec.ofNat 32 z.val ≠ BitVec.ofNat 32 (if q.val % 2 = 0 then q.val / 2 else 128 + q.val / 2) := by
      intro e3
      have e4 := congrArg BitVec.toNat e3
      rw [BitVec.toNat_ofNat, BitVec.toNat_ofNat, Nat.mod_eq_of_lt (by omega), Nat.mod_eq_of_lt (by split <;> omega)] at e4
      exact e e4
    rw [show IntOp.cmpi .eq (BitVec.ofNat 32 z.val) (BitVec.ofNat 32 (if q.val % 2 = 0 then q.val / 2 else 128 + q.val / 2)) = 0#1 by
      show BitVec.ofBool (BitVec.ofNat 32 z.val == _) = 0#1
      rw [beq_false_of_ne e2]; rfl]
    rfl

/-- The bias of the gate and up weights as the call finds it. -/
theorem bias_eq : V m c main_v3 = shapeCast S1x32x1x2048 (shapeCast S1x32x2048 (transpose S1x32x8x2x128 [0, 1, 2, 4, 3]
    (shapeCast S1x32x8x128x2 (m ((c : Thread nD τ).loc main_arg3) : Vec Ideal S1x32x2048 .f32) shapeCasts_S1x32x2048_S1x32x8x128x2)
    transposes_S1x32x8x128x2_S1x32x8x2x128_0_1_2_4_3) shapeCasts_S1x32x8x2x128_S1x32x2048) shapeCasts_S1x32x2048_S1x32x1x2048 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

/-- The bias of the gate and up weights, regrouped: each column from where the weights' column comes from. -/
theorem bias_apply (e : Fin 32) (j : Fin 2048) :
    V m c main_v3 (ix4 (0 : Fin 1) e (0 : Fin 1) j) = m ((c : Thread nD τ).loc main_arg3) (ix3 (0 : Fin 1) e (origin j)) := by
  rw [bias_eq]
  have he := e.isLt
  have hj := j.isLt
  rw [shapeCast_apply _ _ _ (ix3 (0 : Fin 1) e j) (by
    rw [Shape.rowMajor_val_three, Shape.rowMajor_val_four]
    show (0 * 32 + e.val) * 2048 + j.val = ((0 * 32 + e.val) * 1 + 0) * 2048 + j.val
    omega)]
  rw [shapeCast_apply _ _ _ (ix5 (0 : Fin 1) e (⟨j.val / 256, by omega⟩ : Fin 8) (⟨j.val / 128 % 2, by omega⟩ : Fin 2) (⟨j.val % 128, by omega⟩ : Fin 128)) (by
    rw [Shape.rowMajor_val_three, Shape.rowMajor_val_five]
    show (((0 * 32 + e.val) * 8 + j.val / 256) * 2 + j.val / 128 % 2) * 128 + j.val % 128 = (0 * 32 + e.val) * 2048 + j.val
    omega)]
  rw [transpose_apply _ _ _ _ (ix5 (0 : Fin 1) e (⟨j.val / 256, by omega⟩ : Fin 8) (⟨j.val % 128, by omega⟩ : Fin 128) (⟨j.val / 128 % 2, by omega⟩ : Fin 2)) (fun a =>
    match a with
    | ⟨0, _⟩ => rfl
    | ⟨1, _⟩ => rfl
    | ⟨2, _⟩ => rfl
    | ⟨3, _⟩ => rfl
    | ⟨4, _⟩ => rfl)]
  refine shapeCast_apply _ _ _ (ix3 (0 : Fin 1) e (origin j)) ?_
  rw [Shape.rowMajor_val_three, Shape.rowMajor_val_five]
  show (0 * 32 + e.val) * 2048 + (256 * (j.val / 256) + source (j.val % 256)) = (((0 * 32 + e.val) * 8 + j.val / 256) * 128 + j.val % 128) * 2 + j.val / 128 % 2
  unfold source
  split <;> omega

/-- The down weights' bias as the call finds it. -/
theorem bias_down_eq : V m c main_v4 = shapeCast S1x32x1x1024 (m ((c : Thread nD τ).loc main_arg5) : Vec Ideal S1x32x1024 .f32) shapeCasts_S1x32x1024_S1x32x1x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

/-- An entry of it. -/
theorem bias_down_apply (e : Fin 32) (j : Fin 1024) :
    V m c main_v4 (ix4 (0 : Fin 1) e (0 : Fin 1) j) = m ((c : Thread nD τ).loc main_arg5) (ix3 (0 : Fin 1) e j) := by
  rw [bias_down_eq]
  refine shapeCast_apply _ _ _ (ix3 (0 : Fin 1) e j) ?_
  rw [Shape.rowMajor_val_three, Shape.rowMajor_val_four]
  show (0 * 32 + e.val) * 1024 + j.val = ((0 * 32 + e.val) * 1 + 0) * 1024 + j.val
  omega

end Cert.ExpertsProof

end

end
-- ==== Proof.ExpertsTable.lean ====
/- The two tables the host prepares for the experts' call from the number of token rows of each expert: the expert of
   every block, and the number of blocks in use.  They are the reference's, and every block's expert is one of the 32. -/
module

public import proofs.«01_k».proof.Proof.ExpertsFrame
public import proofs.«01_k».proof.Proof.Gen.ExpertsRefIdeal.Read

@[expose] public section

set_option maxRecDepth 16384

noncomputable section

namespace Cert.ExpertsProof

open Cert.ExpertsIdeal Cert.ExpertsIdeal.Gen
open Idealize.ShloMosaic Idealize.ShloMosaic.TcCoe Idealize.ShloMosaic.Tactic

variable {F : FTy → Type} [FloatOps F]

variable (m : (ℓ : Loc nD τ sig) → Buf (Elt F) ℓ) (c : Dev nD)

set_option maxHeartbeats 4000000 in
/-- The list of the blocks' experts is the reference's. -/
theorem list_eq : V m c main_v24 = Cert.ExpertsRefIdeal.Read.val_main_v21 (F := F) (m ((c : Thread nD τ).loc main_arg1)) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  after_results
  simp only [StableHlo.TRef.ofBuf, StableHlo.TRef.toBuf, StableHlo.TRef.of, cast_eq, eqRec_eq_cast, id]
  rfl

set_option maxHeartbeats 4000000 in
/-- So is the number of blocks in use. -/
theorem used_eq : V m c main_v26 = Cert.ExpertsRefIdeal.Read.val_main_v9 (F := F) (m ((c : Thread nD τ).loc main_arg1)) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  after_results
  simp only [StableHlo.TRef.ofBuf, StableHlo.TRef.toBuf, StableHlo.TRef.of, cast_eq, eqRec_eq_cast, id]
  rfl

/-- A sum of zeros and ones is at most the number of its terms. -/
theorem sum_le {ι : Type} [DecidableEq ι] (g : ι → BitVec 32) (hg : ∀ i, (g i).toNat ≤ 1) (S : Finset ι) :
    (S.fold IntOp.addi 0#32 g).toNat ≤ S.card := by
  induction S using Finset.induction_on with
  | empty => simp
  | insert a S ha ih =>
    rw [Finset.fold_insert ha, Finset.card_insert_of_notMem ha]
    have h1 := hg a
    have h2 : (IntOp.addi (g a) (S.fold IntOp.addi 0#32 g)).toNat ≤ (g a).toNat + (S.fold IntOp.addi 0#32 g).toNat := by
      show (g a + S.fold IntOp.addi 0#32 g).toNat ≤ _
      rw [BitVec.toNat_add]
      exact Nat.mod_le _ _
    omega

/-- The lesser of a number up to 32 and 31 is below 32. -/
theorem least_lt (w : BitVec 32) (h : w.toNat ≤ 32) : (IntOp.minsi w 31#32).toNat < 32 := by
  have key : ∀ n : Fin 33, (IntOp.minsi (BitVec.ofNat 32 n.val) 31#32).toNat < 32 := by decide
  have := key ⟨w.toNat, by omega⟩
  rwa [show BitVec.ofNat 32 w.toNat = w from BitVec.eq_of_toNat_eq (by rw [BitVec.toNat_ofNat]; have := w.isLt; omega)] at this

/-- Every block's expert is one of the 32, whatever the numbers of rows. -/
theorem in_range : InRange m := by
  intro j
  rw [list_eq, Cert.ExpertsRefIdeal.Read.val_main_v21_apply, Cert.ExpertsRefIdeal.Read.val_main_v20_apply, Cert.ExpertsRefIdeal.Read.val_main_c_6_apply]
  refine least_lt _ ?_
  unfold Cert.ExpertsRefIdeal.Read.val_main_v19
  rw [Host.reduce_eq_fold_single IntOp.addi _ _ Cert.ExpertsRefIdeal.Gen.reducesTo_S320x32_S320_d1 (by decide) Cert.ExpertsRefIdeal.Gen.h_S_ j]
  refine (sum_le _ (fun k => ?_) _).trans (by rw [Finset.card_univ]; exact le_of_eq (Fintype.card_fin 32))
  show (Cert.ExpertsRefIdeal.Read.val_main_v18 (F := F) _ _).toNat ≤ 1
  rw [Cert.ExpertsRefIdeal.Read.val_main_v18_apply]
  show (BitVec.zeroExtend 32 _).toNat ≤ 1
  rw [BitVec.toNat_setWidth]
  refine (Nat.mod_le _ _).trans ?_
  exact Nat.lt_succ_iff.mp (BitVec.isLt _)

end Cert.ExpertsProof

end

end
-- ==== Proof.ExpertsRef.lean ====
/- What the experts' reference computes, entry by entry: each token of an active block through its expert's gate and up
   weights, the activation and the down weights; zero elsewhere. -/
module

public import proofs.«01_k».proof.Proof.ExpertsValue
public import proofs.«01_k».proof.Proof.Gen.ExpertsRefIdeal.Read
public import Idealize.ShloMosaic.Lib.WordCmp

@[expose] public section

set_option maxRecDepth 16384

noncomputable section

namespace Cert.ExpertsProof

open Cert.ExpertsRefIdeal Cert.ExpertsRefIdeal.Gen Cert.ExpertsRefIdeal.Read Idealize.ShloMosaic

/-- Indexing the leading axis of three by a list of places: entry `(t, a, b)` is the operand's `(e, a, b)`, `e` the
    place the list has at `t`. -/
theorem take3_apply {α : Type} {N A B n : ℕ}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (a : Fin A) (b : Fin B) (e : Fin N)
    (he : (idx (ix2 t (0 : Fin 1))).toInt.toNat = e.val) :
    Host.gather (s := ⟨3, ![N, A, B]⟩) (t := ⟨3, ![n, A, B]⟩) ⟨[1, 2], [0], [], [], [0], 1, ![1, A, B], wf⟩ x idx (ix3 t a b) = x (ix3 e a b) := by
  unfold Host.gather
  refine congrArg x (funext fun c => Fin.ext ?_)
  let d : GatherDims ⟨3, ![N, A, B]⟩ ⟨2, ![n, 1]⟩ ⟨3, ![n, A, B]⟩ := ⟨[1, 2], [0], [], [], [0], 1, ![1, A, B], wf⟩
  show d.start (ix3 t a b) idx c + d.batchCoord (ix3 t a b) c + d.offCoord (ix3 t a b) c = _
  rw [GatherDims.batchCoord_eq_zero _ _ _ List.not_mem_nil, Nat.add_zero]
  match c with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ d.startIndexMap from List.mem_singleton.mpr rfl)).trans ?_
    have hsi : d.siIdx (ix3 t a b) ⟨List.idxOf (0 : Fin 3) d.startIndexMap,
        List.idxOf_lt_length_iff.2 (List.mem_singleton.mpr rfl)⟩ = ix2 t (0 : Fin 1) := by
      funext k; refine Fin.ext ?_
      match k with
      | ⟨0, _⟩ => rfl
      | ⟨1, _⟩ => rfl
    have hm : min (idx (ix2 t (0 : Fin 1))).toInt.toNat (N - 1) = e.val := by rw [he]; have := e.isLt; omega
    refine Eq.trans ?_ hm
    exact congrArg (fun k => min (idx k).toInt.toNat (N - 1)) hsi
  | ⟨1, _⟩ =>
    have h0 : d.start (ix3 t a b) idx (1 : Fin 3) = 0 := by
      unfold GatherDims.start; exact dif_neg (show ¬(1 : Fin 3) ∈ ([0] : List (Fin 3)) by decide)
    refine (congrArg (fun k => k + d.offCoord (ix3 t a b) (1 : Fin 3)) h0).trans ((Nat.zero_add _).trans ?_)
    unfold GatherDims.offCoord
    rw [dif_pos ((GatherDims.mem_sKept d (1 : Fin 3)).mpr ⟨show ¬(1 : Fin 3) ∈ ([0] : List (Fin 3)) by decide, List.not_mem_nil⟩)]
    rfl
  | ⟨2, _⟩ =>
    have h0 : d.start (ix3 t a b) idx (2 : Fin 3) = 0 := by
      unfold GatherDims.start; exact dif_neg (show ¬(2 : Fin 3) ∈ ([0] : List (Fin 3)) by decide)
    refine (congrArg (fun k => k + d.offCoord (ix3 t a b) (2 : Fin 3)) h0).trans ((Nat.zero_add _).trans ?_)
    unfold GatherDims.offCoord
    rw [dif_pos ((GatherDims.mem_sKept d (2 : Fin 3)).mpr ⟨show ¬(2 : Fin 3) ∈ ([0] : List (Fin 3)) by decide, List.not_mem_nil⟩)]
    rfl

/-- The same for a leading axis of two. -/
theorem take2_apply {α : Type} {N A n : ℕ}
    (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ 32) (t : Fin n) (a : Fin A) (e : Fin N)
    (he : (idx (ix2 t (0 : Fin 1))).toInt.toNat = e.val) :
    Host.gather (s := ⟨2, ![N, A]⟩) (t := ⟨2, ![n, A]⟩) ⟨[1], [0], [], [], [0], 1, ![1, A], wf⟩ x idx (ix2 t a) = x (ix2 e a) := by
  unfold Host.gather
  refine congrArg x (funext fun c => Fin.ext ?_)
  let d : GatherDims ⟨2, ![N, A]⟩ ⟨2, ![n, 1]⟩ ⟨2, ![n, A]⟩ := ⟨[1], [0], [], [], [0], 1, ![1, A], wf⟩
  show d.start (ix2 t a) idx c + d.batchCoord (ix2 t a) c + d.offCoord (ix2 t a) c = _
  rw [GatherDims.batchCoord_eq_zero _ _ _ List.not_mem_nil, Nat.add_zero]
  match c with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ d.startIndexMap from List.mem_singleton.mpr rfl)).trans ?_
    have hsi : d.siIdx (ix2 t a) ⟨List.idxOf (0 : Fin 2) d.startIndexMap,
        List.idxOf_lt_length_iff.2 (List.mem_singleton.mpr rfl)⟩ = ix2 t (0 : Fin 1) := by
      funext k; refine Fin.ext ?_
      match k with
      | ⟨0, _⟩ => rfl
      | ⟨1, _⟩ => rfl
    have hm : min (idx (ix2 t (0 : Fin 1))).toInt.toNat (N - 1) = e.val := by rw [he]; have := e.isLt; omega
    refine Eq.trans ?_ hm
    exact congrArg (fun k => min (idx k).toInt.toNat (N - 1)) hsi
  | ⟨1, _⟩ =>
    have h0 : d.start (ix2 t a) idx (1 : Fin 2) = 0 := by
      unfold GatherDims.start; exact dif_neg (show ¬(1 : Fin 2) ∈ ([0] : List (Fin 2)) by decide)
    refine (congrArg (fun k => k + d.offCoord (ix2 t a) (1 : Fin 2)) h0).trans ((Nat.zero_add _).trans ?_)
    unfold GatherDims.offCoord
    rw [dif_pos ((GatherDims.mem_sKept d (1 : Fin 2)).mpr ⟨show ¬(1 : Fin 2) ∈ ([0] : List (Fin 2)) by decide, List.not_mem_nil⟩)]
    rfl

variable (x0 : Vec Ideal S1310720x128 .f32) (x1 : Vec Ideal S32 .i32) (x2 : Vec Ideal S1x32x1024x2048 .f32)
  (x3 : Vec Ideal S1x32x2048 .f32) (x4 : Vec Ideal S1x32x1024x1024 .f32) (x5 : Vec Ideal S1x32x1024 .f32)

/-- Gate or up value `c` of token `r` of block `t`, by expert `e`. -/
def between (e : Fin 32) (t : Fin 320) (r : Fin 512) (c : Fin 2048) : EReal :=
  HAdd.hAdd (α := EReal) (β := EReal) (∑ p : Fin 1024, HMul.hMul (α := EReal) (β := EReal)
    (x0 (ix2 (⟨4096 * t.val + 8 * r.val + p.val / 128, by omega⟩ : Fin 1310720) (⟨p.val % 128, by omega⟩ : Fin 128)))
    (x2 (ix4 (0 : Fin 1) e p c))) (x3 (ix3 (0 : Fin 1) e c))

/-- Entry `j` of the result for token `r` of block `t`, by expert `e`. -/
def outcome (e : Fin 32) (t : Fin 320) (r : Fin 512) (j : Fin 1024) : EReal :=
  HAdd.hAdd (α := EReal) (β := EReal) (∑ q : Fin 1024, HMul.hMul (α := EReal) (β := EReal)
    (act (between x0 x2 x3 e t r ⟨2 * q.val, by omega⟩) (between x0 x2 x3 e t r ⟨2 * q.val + 1, by omega⟩))
    (x4 (ix4 (0 : Fin 1) e q j))) (x5 (ix3 (0 : Fin 1) e j))

/-- A place that is not negative is not wrapped. -/
theorem unwrapped (w : BitVec 32) (h : w.toNat < 32) : Scalar.select (IntOp.cmpi .slt w 0#32) (IntOp.addi w 32#32) w = w := by
  have e : IntOp.cmpi .slt w 0#32 = 0#1 := by
    rw [WordCmp.cmpi_slt_of_lt (by show w.toNat < 2 ^ 31; omega) (by decide)]
    rw [decide_eq_false (by show ¬ w.toNat < 0; omega)]
    rfl
  rw [e]; rfl

/-- A place below 32, read signed, is itself. -/
theorem signed (w : BitVec 32) (h : w.toNat < 32) : w.toInt.toNat = w.toNat := by
  rw [BitVec.toInt_eq_toNat_of_lt (by omega)]; rfl

/-- Every other column, from the first. -/
theorem even_apply (t : Fin 320) (r : Fin 512) (q : Fin 1024) : val_main_v43 (F := Ideal) x0 x1 x2 x3 (ix3 t r q)
    = val_main_v42 (F := Ideal) x0 x1 x2 x3 (ix3 t r (⟨2 * q.val, by omega⟩ : Fin 2048)) := by
  unfold val_main_v43 Host.slice
  refine congrArg (val_main_v42 (F := Ideal) x0 x1 x2 x3) (funext fun a => Fin.ext ?_)
  match a with
  | ⟨0, _⟩ => show 0 + 1 * t.val = t.val; omega
  | ⟨1, _⟩ => show 0 + 1 * r.val = r.val; omega
  | ⟨2, _⟩ => show 0 + 2 * q.val = 2 * q.val; omega

/-- Every other column, from the second. -/
theorem odd_apply (t : Fin 320) (r : Fin 512) (q : Fin 1024) : val_main_v46 (F := Ideal) x0 x1 x2 x3 (ix3 t r q)
    = val_main_v42 (F := Ideal) x0 x1 x2 x3 (ix3 t r (⟨2 * q.val + 1, by omega⟩ : Fin 2048)) := by
  unfold val_main_v46 Host.slice
  refine congrArg (val_main_v42 (F := Ideal) x0 x1 x2 x3) (funext fun a => Fin.ext ?_)
  match a with
  | ⟨0, _⟩ => show 0 + 1 * t.val = t.val; omega
  | ⟨1, _⟩ => show 0 + 1 * r.val = r.val; omega
  | ⟨2, _⟩ => show 1 + 2 * q.val = 2 * q.val + 1; omega

section
variable (t : Fin 320) (e : Fin 32) (he : BitVec.toNat (val_main_v21 (F := Ideal) x1 (ix1 t)) = e.val)

include he in
theorem place_7 : (val_main_v29 (F := Ideal) x1 (ix2 t (0 : Fin 1)) : BitVec 32).toInt.toNat = e.val := by
  rw [val_main_v29_apply, val_main_v28_apply, val_main_v25_apply, val_main_v27_apply, val_main_v24_apply, val_main_v26_apply, val_main_c_7_apply, val_main_c_8_apply]
  have hi : idx_main_v29 (ix2 t (0 : Fin 1)) = ix1 t := funext fun a => match a with | ⟨0, _⟩ => rfl
  rw [hi, unwrapped _ (by rw [he]; exact e.isLt), signed _ (by rw [he]; exact e.isLt), he]

include he in
theorem place_16 : (val_main_v38 (F := Ideal) x1 (ix2 t (0 : Fin 1)) : BitVec 32).toInt.toNat = e.val := by
  rw [val_main_v38_apply, val_main_v37_apply, val_main_v34_apply, val_main_v36_apply, val_main_v33_apply, val_main_v35_apply, val_main_c_9_apply, val_main_c_10_apply]
  have hi : idx_main_v38 (ix2 t (0 : Fin 1)) = ix1 t := funext fun a => match a with | ⟨0, _⟩ => rfl
  rw [hi, unwrapped _ (by rw [he]; exact e.isLt), signed _ (by rw [he]; exact e.isLt), he]

include he in
theorem place_44 : (val_main_v66 (F := Ideal) x1 (ix2 t (0 : Fin 1)) : BitVec 32).toInt.toNat = e.val := by
  rw [val_main_v66_apply, val_main_v65_apply, val_main_v62_apply, val_main_v64_apply, val_main_v61_apply, val_main_v63_apply, val_main_c_17_apply, val_main_c_18_apply]
  have hi : idx_main_v66 (ix2 t (0 : Fin 1)) = ix1 t := funext fun a => match a with | ⟨0, _⟩ => rfl
  rw [hi, unwrapped _ (by rw [he]; exact e.isLt), signed _ (by rw [he]; exact e.isLt), he]

include he in
theorem place_53 : (val_main_v75 (F := Ideal) x1 (ix2 t (0 : Fin 1)) : BitVec 32).toInt.toNat = e.val := by
  rw [val_main_v75_apply, val_main_v74_apply, val_main_v71_apply, val_main_v73_apply, val_main_v70_apply, val_main_v72_apply, val_main_c_19_apply, val_main_c_20_apply]
  have hi : idx_main_v75 (ix2 t (0 : Fin 1)) = ix1 t := funext fun a => match a with | ⟨0, _⟩ => rfl
  rw [hi, unwrapped _ (by rw [he]; exact e.isLt), signed _ (by rw [he]; exact e.isLt), he]

include he in
/-- The block's gate and up weights are its expert's. -/
theorem up_taken (p : Fin 1024) (c : Fin 2048) : val_main_v30 (F := Ideal) x1 x2 (ix3 t p c) = x2 (ix4 (0 : Fin 1) e p c) := by
  refine (take3_apply _ (val_main_v23 (F := Ideal) x2) _ t p c e (place_7 x1 t e he)).trans ?_
  rw [val_main_v23_apply]
  refine congrArg x2 (funext fun a => Fin.ext ?_)
  have := e.isLt; have := p.isLt; have := c.isLt
  match a with
  | ⟨0, _⟩ => rfl
  | ⟨1, _⟩ => show ((e.val * 1024 + p.val) * 2048 + c.val) / 2097152 % 32 = e.val; omega
  | ⟨2, _⟩ => show ((e.val * 1024 + p.val) * 2048 + c.val) / 2048 % 1024 = p.val; omega
  | ⟨3, _⟩ => show ((e.val * 1024 + p.val) * 2048 + c.val) % 2048 = c.val; omega

include he in
/-- The block's gate and up bias is its expert's. -/
theorem up_bias_taken (r : Fin 512) (c : Fin 2048) : val_main_v41 (F := Ideal) x1 x3 (ix3 t r c) = x3 (ix3 (0 : Fin 1) e c) := by
  rw [val_main_v41_apply, val_main_v40_apply]
  have hi : idx_main_v40 (idx_main_v41 (ix3 t r c)) = ix2 t c := funext fun a => match a with
    | ⟨0, _⟩ => rfl
    | ⟨1, _⟩ => rfl
  rw [hi]
  refine (take2_apply _ (val_main_v32 (F := Ideal) x3) _ t c e (place_16 x1 t e he)).trans ?_
  rw [val_main_v32_apply]
  refine congrArg x3 (funext fun a => Fin.ext ?_)
  have := e.isLt; have := c.isLt
  match a with
  | ⟨0, _⟩ => rfl
  | ⟨1, _⟩ => show (e.val * 2048 + c.val) / 2048 % 32 = e.val; omega
  | ⟨2, _⟩ => show (e.val * 2048 + c.val) % 2048 = c.val; omega

include he in
/-- The block's down weights are its expert's. -/
theorem down_taken (q j : Fin 1024) : val_main_v67 (F := Ideal) x1 x4 (ix3 t q j) = x4 (ix4 (0 : Fin 1) e q j) := by
  refine (take3_apply _ (val_main_v60 (F := Ideal) x4) _ t q j e (place_44 x1 t e he)).trans ?_
  rw [val_main_v60_apply]
  refine congrArg x4 (funext fun a => Fin.ext ?_)
  have := e.isLt; have := q.isLt; have := j.isLt
  match a with
  | ⟨0, _⟩ => rfl
  | ⟨1, _⟩ => show ((e.val * 1024 + q.val) * 1024 + j.val) / 1048576 % 32 = e.val; omega
  | ⟨2, _⟩ => show ((e.val * 1024 + q.val) * 1024 + j.val) / 1024 % 1024 = q.val; omega
  | ⟨3, _⟩ => show ((e.val * 1024 + q.val) * 1024 + j.val) % 1024 = j.val; omega

include he in
/-- The block's down bias is its expert's. -/
theorem down_bias_taken (r : Fin 512) (j : Fin 1024) : val_main_v78 (F := Ideal) x1 x5 (ix3 t r j) = x5 (ix3 (0 : Fin 1) e j) := by
  rw [val_main_v78_apply, val_main_v77_apply]
  have hi : idx_main_v77 (idx_main_v78 (ix3 t r j)) = ix2 t j := funext fun a => match a with
    | ⟨0, _⟩ => rfl
    | ⟨1, _⟩ => rfl
  rw [hi]
  refine (take2_apply _ (val_main_v69 (F := Ideal) x5) _ t j e (place_53 x1 t e he)).trans ?_
  rw [val_main_v69_apply]
  refine congrArg x5 (funext fun a => Fin.ext ?_)
  have := e.isLt; have := j.isLt
  match a with
  | ⟨0, _⟩ => rfl
  | ⟨1, _⟩ => show (e.val * 1024 + j.val) / 1024 % 32 = e.val; omega
  | ⟨2, _⟩ => show (e.val * 1024 + j.val) % 1024 = j.val; omega

include he in
/-- The gate and up values. -/
theorem between_eq (r : Fin 512) (c : Fin 2048) : val_main_v42 (F := Ideal) x0 x1 x2 x3 (ix3 t r c) = between x0 x2 x3 e t r c := by
  rw [val_main_v42_apply, val_main_v31_apply]
  refine congrArg₂ (fun a b : EReal => a + b) (Finset.sum_congr rfl fun p _ => congrArg₂ (fun a b : EReal => a * b) ?_ ?_) ?_
  · rw [val_main_v22_apply]
    refine congrArg x0 (funext fun a => Fin.ext ?_)
    have := t.isLt; have := r.isLt; have := p.isLt
    match a with
    | ⟨0, _⟩ => show ((t.val * 512 + r.val) * 1024 + p.val) / 128 = 4096 * t.val + 8 * r.val + p.val / 128; omega
    | ⟨1, _⟩ => show ((t.val * 512 + r.val) * 1024 + p.val) % 128 = p.val % 128; omega
  · refine (congrArg (val_main_v30 (F := Ideal) x1 x2) (funext fun a => ?_)).trans (up_taken x1 x2 t e he p c)
    match a with
    | ⟨0, _⟩ => rfl
    | ⟨1, _⟩ => rfl
    | ⟨2, _⟩ => rfl
  · exact up_bias_taken x1 x3 t e he r c

/-- The reference's activation: its sigmoid is spelt out. -/
theorem act_eq (i : S320x512x1024.Idx) : val_main_v59 (F := Ideal) x0 x1 x2 x3 i
    = act (val_main_v43 (F := Ideal) x0 x1 x2 x3 i) (val_main_v46 (F := Ideal) x0 x1 x2 x3 i) := by
  rw [val_main_v59_apply, val_main_v49_apply, val_main_v47_apply, val_main_call3_v4_apply, val_main_call3_v3_apply, val_main_call3_v2_apply,
    val_main_call3_v1_apply, val_main_call3_v0_apply, val_main_v48_apply, val_main_v58_apply, val_main_v57_apply, val_main_v56_apply,
    val_main_v55_apply, val_main_v54_apply, val_main_v53_apply, val_main_v52_apply, val_main_v51_apply, val_main_v50_apply,
    val_main_v45_apply, val_main_v44_apply]
  generalize val_main_v43 (F := Ideal) x0 x1 x2 x3 i = g
  generalize val_main_v46 (F := Ideal) x0 x1 x2 x3 i = u
  have h : ∀ y : EReal, Ideal.div (Ideal.ofBits .f32 0x3F800000#32) (Ideal.ofBits .f32 0x3F800000#32 + Ideal.exp (-y)) = Ideal.logistic y := fun y => by
    rw [one_bits]; rfl
  unfold act
  rw [← h]
  rfl

include he in
/-- A token's result before the inactive blocks are put to zero. -/
theorem outcome_eq (r : Fin 512) (j : Fin 1024) : val_main_v79 (F := Ideal) x0 x1 x2 x3 x4 x5 (ix3 t r j) = outcome x0 x2 x3 x4 x5 e t r j := by
  rw [val_main_v79_apply, val_main_v68_apply]
  refine congrArg₂ (fun a b : EReal => a + b) (Finset.sum_congr rfl fun q _ => congrArg₂ (fun a b : EReal => a * b) ?_ ?_) ?_
  · refine (congrArg (val_main_v59 (F := Ideal) x0 x1 x2 x3) (show lidx_main_v68 (ix3 t r j) q = ix3 t r q from funext fun a => ?_)).trans ?_
    · match a with
      | ⟨0, _⟩ => rfl
      | ⟨1, _⟩ => rfl
      | ⟨2, _⟩ => rfl
    · rw [act_eq, even_apply, odd_apply, between_eq x0 x1 x2 x3 t e he, between_eq x0 x1 x2 x3 t e he]
  · refine (congrArg (val_main_v67 (F := Ideal) x1 x4) (funext fun a => ?_)).trans (down_taken x1 x4 t e he q j)
    match a with
    | ⟨0, _⟩ => rfl
    | ⟨1, _⟩ => rfl
    | ⟨2, _⟩ => rfl
  · exact down_bias_taken x1 x5 t e he r j

/-- The number of active blocks. -/
theorem count_eq (i : S_.Idx) : val_main_v81 (F := Ideal) x1 i = (val_main_v9 (F := Ideal) x1) (ix1 (0 : Fin 1)) := by
  unfold val_main_v81
  refine shapeCast_apply (val_main_v9 (F := Ideal) x1) shapeCasts_S1_S_ i (ix1 (0 : Fin 1)) ?_
  rw [Shape.rowMajor_val_one]
  have h : (S_.rowMajor i).val < 1 := (S_.rowMajor i).isLt
  show 0 = _
  omega

include he in
/-- The reference's result: a token's, in the blocks before the number of active ones; zero in the others. -/
theorem result_eq (y : Fin 4096) (l : Fin 128) :
    val_main_v86 (F := Ideal) x0 x1 x2 x3 x4 x5 (ix2 (⟨4096 * t.val + y.val, by omega⟩ : Fin 1310720) l)
      = Scalar.select (IntOp.cmpi .slt (BitVec.ofNat 32 t.val) ((val_main_v9 (F := Ideal) x1) (ix1 (0 : Fin 1))))
          (outcome x0 x2 x3 x4 x5 e t ⟨y.val / 8, by omega⟩ ⟨128 * (y.val % 8) + l.val, by omega⟩) (Ideal.ofBits .f32 0x00000000#32) := by
  rw [val_main_v86_apply]
  have hi : idx_main_v86 (ix2 (⟨4096 * t.val + y.val, by omega⟩ : Fin 1310720) l)
      = ix3 t (⟨y.val / 8, by omega⟩ : Fin 512) (⟨128 * (y.val % 8) + l.val, by omega⟩ : Fin 1024) := funext fun a => Fin.ext (by
    have := t.isLt; have := y.isLt; have := l.isLt
    match a with
    | ⟨0, _⟩ => show ((4096 * t.val + y.val) * 128 + l.val) / 524288 = t.val; omega
    | ⟨1, _⟩ => show ((4096 * t.val + y.val) * 128 + l.val) / 1024 % 512 = y.val / 8; omega
    | ⟨2, _⟩ => show ((4096 * t.val + y.val) * 128 + l.val) % 1024 = 128 * (y.val % 8) + l.val; omega)
  rw [hi, val_main_v85_apply, outcome_eq x0 x1 x2 x3 x4 x5 t e he, val_main_call4_v1_apply, val_main_v84_apply, val_main_v83_apply,
    val_main_v80_apply, val_main_v82_apply, count_eq, val_main_call4_v2_apply, val_main_call4_v0_apply, val_main_cst_21_apply]
  rfl

end

end Cert.ExpertsProof

end

end
-- ==== Proof.ExpertsEq.lean ====
/- The experts' call and its reference end with the same array: a step's block is its expert's tokens, or zeros past the
   active blocks, and the steps' blocks fill the array. -/
module

public import proofs.«01_k».proof.Proof.ExpertsEnd
public import proofs.«01_k».proof.Proof.ExpertsHost
public import proofs.«01_k».proof.Proof.ExpertsTable
public import proofs.«01_k».proof.Proof.ExpertsRef

@[expose] public section

set_option maxRecDepth 16384

noncomputable section

namespace Cert.ExpertsProof

open Cert.ExpertsIdeal Cert.ExpertsIdeal.Gen
open Idealize.ShloMosaic Idealize.ShloMosaic.TcCoe Idealize.ShloMosaic.Tactic

variable (m : (ℓ : Loc nD τ sig) → Buf (Elt Ideal) ℓ) (h : InRange m) (c : Dev nD)

/-- The step's number is below 320. -/
theorem step_lt (a : (pcfg0 (F := Ideal)).Adm) (t : Fin (cfg0 a).N) : t.val < 320 := by
  have := Nat.lt_of_lt_of_eq t.isLt (show (cfg0 a).N = 320 from N_0); exact this

/-- The expert a step reads from the list. -/
theorem word_eq (t : Fin (cfg0 (adm m h)).N) :
    word (F := Ideal) (grid0.coords t) ((adm m h).1 0)
      = Cert.ExpertsRefIdeal.Read.val_main_v21 (F := Ideal) (m ((c : Thread nD τ).loc main_arg1)) (ix1 (⟨t.val, step_lt _ t⟩ : Fin 320)) := by
  obtain rfl : c = 0 := Subsingleton.elim _ _
  show word (F := Ideal) (grid0.coords t) (tables m 0) = _
  rw [tables_0, list_eq]
  unfold word
  refine congrArg (Cert.ExpertsRefIdeal.Read.val_main_v21 (F := Ideal) (m (((0 : Dev nD) : Thread nD τ).loc main_arg1))) (funext fun x => Fin.ext ?_)
  have e1 := off1_eq t
  fin_cases x
  show k0_off1 (grid0.coords t) 0 + 1 * 0 = t.val
  omega

/-- The number of active blocks, as a step reads it. -/
theorem count_read : count (F := Ideal) ((adm m h).1 1)
    = Cert.ExpertsRefIdeal.Read.val_main_v9 (F := Ideal) (m ((c : Thread nD τ).loc main_arg1)) (ix1 (0 : Fin 1)) := by
  obtain rfl : c = 0 := Subsingleton.elim _ _
  show count (F := Ideal) (tables m 1) = _
  rw [tables_1, used_eq]
  unfold count
  refine congrArg (Cert.ExpertsRefIdeal.Read.val_main_v9 (F := Ideal) (m (((0 : Dev nD) : Thread nD τ).loc main_arg1))) (funext fun x => ?_)
  fin_cases x
  exact Subsingleton.elim (α := Fin 1) _ _

section Step
variable (t : Fin (cfg0 (adm m h)).N)

/-- The expert of a step. -/
def expert : Fin 32 := ⟨(word (F := Ideal) (grid0.coords t) ((adm m h).1 0)).toNat, word_in (adm m h) t⟩

/-- It is the list's entry. -/
theorem expert_eq : BitVec.toNat (Cert.ExpertsRefIdeal.Read.val_main_v21 (F := Ideal) (m ((c : Thread nD τ).loc main_arg1)) (ix1 (⟨t.val, step_lt _ t⟩ : Fin 320)))
    = (expert m h t).val := by
  rw [← word_eq m h c t]; rfl

/-- Gate or up value of a token of a step. -/
theorem middle_eq (r : Fin 512) (j : Fin 2048) :
    middle (iblk m (adm m h) c 0 t) (weights m (adm m h) c t) (iblk m (adm m h) c 2 t) (ix2 r j)
      = between (m ((c : Thread nD τ).loc main_arg0)) (m ((c : Thread nD τ).loc main_arg2)) (m ((c : Thread nD τ).loc main_arg3))
          (expert m h t) ⟨t.val, step_lt _ t⟩ r (origin j) := by
  refine (middle_apply _ _ _ _ _).trans ?_
  unfold between
  refine congrArg₂ (fun a b : EReal => a + b) (Finset.sum_congr rfl fun p _ => congrArg₂ (fun a b : EReal => a * b) ?_ ?_) ?_
  · unfold entry
    refine (block_0 m (adm m h) c t _ _).trans ?_
    rw [V_arg0]
    refine congrArg (m ((c : Thread nD τ).loc main_arg0)) (funext fun x => Fin.ext ?_)
    match x with
    | ⟨0, _⟩ => show 4096 * t.val + (8 * r.val + p.val / 128) = 4096 * t.val + 8 * r.val + p.val / 128; omega
    | ⟨1, _⟩ => rfl
  · unfold weights
    refine (regrouped_apply _ _ (fun q z => (block_5 m (adm m h) c t q z).trans (square_apply m c q z)) p j).trans ?_
    refine (block_1 m (adm m h) c t (word_in (adm m h) t) p (origin j)).trans ?_
    rw [V_arg2]; rfl
  · refine (block_2 m (adm m h) c t (word_in (adm m h) t) 0 j).trans ?_
    exact bias_apply m c (expert m h t) j

/-- The tokens of a step are its expert's. -/
theorem step_tokens (r : Fin 512) (j : Fin 1024) :
    tokens (iblk m (adm m h) c 0 t) (weights m (adm m h) c t) (iblk m (adm m h) c 2 t) (weightsDown m (adm m h) c t) (iblk m (adm m h) c 4 t) (ix2 r j)
      = outcome (m ((c : Thread nD τ).loc main_arg0)) (m ((c : Thread nD τ).loc main_arg2)) (m ((c : Thread nD τ).loc main_arg3))
          (m ((c : Thread nD τ).loc main_arg4)) (m ((c : Thread nD τ).loc main_arg5)) (expert m h t) ⟨t.val, step_lt _ t⟩ r j := by
  refine (tokens_apply _ _ _ _ _ _ _).trans ?_
  unfold outcome
  refine congrArg₂ (fun a b : EReal => a + b) (Finset.sum_congr rfl fun q _ => congrArg₂ (fun a b : EReal => a * b) ?_ ?_) ?_
  · rw [middle_eq, middle_eq, origin_gate, origin_up]
  · unfold weightsDown
    refine (downOf_apply _ _ _).trans ?_
    refine (block_3 m (adm m h) c t (word_in (adm m h) t) q j).trans ?_
    rw [V_arg4]; rfl
  · refine (block_4 m (adm m h) c t (word_in (adm m h) t) 0 j).trans ?_
    exact bias_down_apply m c (expert m h t) j

/-- The reference's result. -/
abbrev wanted : Vec Ideal S1310720x128 .f32 :=
  Cert.ExpertsRefIdeal.Read.val_main_v86 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- What a step leaves is the reference's. -/
theorem left_eq (y : Fin 4096) (l : Fin 128) :
    outAt m (adm m h) c t (ix2 y l) = wanted m c (ix2 (⟨4096 * t.val + y.val, by have := step_lt _ t; omega⟩ : Fin 1310720) l) := by
  refine Eq.trans ?_ (result_eq (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) ⟨t.val, step_lt _ t⟩ (expert m h t)
    (expert_eq m h c t) y l).symm
  have hc : k0_cond2 (grid0.coords t) (count (F := Ideal) ((adm m h).1 1))
      = IntOp.cmpi .slt (BitVec.ofNat 32 t.val) (Cert.ExpertsRefIdeal.Read.val_main_v9 (F := Ideal) (m ((c : Thread nD τ).loc main_arg1)) (ix1 (0 : Fin 1))) := by
    rw [cond2_eq, coord_eq, count_read m h c]; rfl
  unfold outAt
  by_cases ha : Active (adm m h) t
  · rw [if_pos ha, ← hc, show k0_cond2 (grid0.coords t) (count (F := Ideal) ((adm m h).1 1)) = 1#1 from ha]
    exact step_tokens m h c t _ _
  · rw [if_neg ha, ← hc]
    have h0 : k0_cond2 (grid0.coords t) (count (F := Ideal) ((adm m h).1 1)) = 0#1 :=
      (bit_cases _).resolve_left ha
    rw [h0]
    rfl

/-- Where a step's entries lie in the array. -/
theorem place (y : Fin 4096) (l : Fin 128) :
    (((cfg0 (adm m h)).win 6).blk t).view.emb (ix2 y l) = ix2 (⟨4096 * t.val + y.val, by have := step_lt _ t; omega⟩ : Fin 1310720) l := by
  have e : (BitVec.ofNat 32 (grid0.coords t 0).val).toNat = t.val := by
    have h := step_lt _ t
    rw [coord_eq, BitVec.toNat_ofNat]; omega
  refine funext fun x => Fin.ext ?_
  match x with
  | ⟨0, _⟩ => show (BitVec.ofNat 32 (grid0.coords t 0).val).toNat * 4096 + 1 * y.val = 4096 * t.val + y.val; omega
  | ⟨1, _⟩ => show 0 * 128 + 1 * l.val = l.val; omega

/-- A step writes back the whole of its block. -/
theorem cut_all (X : Vec Ideal S4096x128 .f32) (y : Fin 4096) (l : Fin 128) :
    ((cfg0 (adm m h)).win 6).cut (grid0.coords t) X (ix2 y l) = X (ix2 y l) := rfl

/-- An entry of what a step writes back. -/
theorem written_at (y : Fin 4096) (l : Fin 128) :
    (dats m (adm m h) 0 c).flushed 6 t (ix2 y l) = wanted m c (ix2 (⟨4096 * t.val + y.val, by have := step_lt _ t; omega⟩ : Fin 1310720) l) := by
  refine Eq.trans ?_ (left_eq m h c t y l)
  show ((cfg0 (adm m h)).win 6).cut (grid0.coords t) ((dats m (adm m h) 0 c).after 6 t) (ix2 y l) = _
  rw [after_6]
  exact cut_all m h t _ y l

/-- Every step writes its block back. -/
theorem flushes : ((cfg0 (adm m h)).win 6).flush t = true := by
  have key : ∀ s : Fin grid0.N, Pipeline.Window.flushOf grid0 true (fun i => cc0_transform_6 i) s = true := by decide +kernel
  exact key t

end Step

theorem index_block (y : S4096x128.Idx) : ∃ (r : Fin 4096) (l : Fin 128), y = ix2 r l := ⟨y 0, y 1, eq_ix2 y⟩

theorem index_array (i : S1310720x128.Idx) : ∃ (r : Fin 1310720) (l : Fin 128), i = ix2 r l := ⟨i 0, i 1, eq_ix2 i⟩

/-- Every entry of the array is written back by some step. -/
theorem reached (r : Fin 1310720) (l : Fin 128) : ∃ t : Fin (cfg0 (adm m h)).N, ((cfg0 (adm m h)).win 6).flush t = true
    ∧ (show (((cfg0 (adm m h)).win 6).arr.view.ref.ty.shape).Idx from ix2 r l) ∈ (((cfg0 (adm m h)).win 6).blk t).view.set := by
  have h0 := r.isLt
  obtain ⟨t, htv⟩ : ∃ t : Fin (cfg0 (adm m h)).N, t.val = r.val / 4096 :=
    ⟨⟨r.val / 4096, Nat.lt_of_lt_of_eq (by omega) (show 320 = (cfg0 (adm m h)).N from N_0.symm)⟩, rfl⟩
  have hm := (((cfg0 (adm m h)).win 6).blk t).view.emb_mem_set (ix2 (⟨r.val % 4096, by omega⟩ : Fin 4096) l)
  have e : (⟨4096 * t.val + r.val % 4096, by have := step_lt _ t; omega⟩ : Fin 1310720) = r := Fin.ext (by show 4096 * t.val + r.val % 4096 = r.val; omega)
  rw [place, e] at hm
  exact ⟨t, flushes m h t, hm⟩

/-- The array after the call is the reference's. -/
theorem final_eq : (dats m (adm m h) 0 c).arrAt 6 (cfg0 (adm m h)).N = wanted m c := by
  funext i
  obtain ⟨r, l, rfl⟩ := index_array i
  refine ((dats m (adm m h) 0 c).arrAt_eq_piecewise 6 (wanted m c) (fun t _ => ?_) _).trans (if_pos (reached m h r l))
  funext y
  obtain ⟨p, j, rfl⟩ := index_block y
  refine (written_at m h c t p j).trans ?_
  exact congrArg (wanted m c) (place m h t p j).symm

end Cert.ExpertsProof

end

end
-- ==== Proof.Modulation.lean ====
/- The modulation call and its reference end with the same array where conditioning and weights are finite.  The call splits
   both factors of its product into a leading part and a rest; over the ideal values a finite number's rest is zero. -/
module

public import proofs.«01_k».proof.Proof.Equation
public import proofs.«01_k».proof.Proof.Gen.ModIdeal.Frame
public import proofs.«01_k».proof.Proof.Gen.ModRefIdeal.Read
public import proofs.«01_k».proof.Proof.Gen.Pre_finite_conditioning
public import Idealize.ShloMosaic.Lib.Pipeline.ValueKit
public import Idealize.ShloMosaic.Lib.Pointwise.SelectCore
public import Idealize.ShloMosaic.Lib.ValueLayout
public import Idealize.ShloMosaic.Lib.MatmulPlain

@[expose] public section

set_option maxRecDepth 16384

noncomputable section

namespace Cert.ModProof

open Idealize.ShloMosaic hiding ix2 ix3
open Cert.ModIdeal Cert.ModIdeal.Gen Idealize.ShloMosaic.ValueIdx Idealize.ShloMosaic.TcCoe Idealize.ShloMosaic.Tactic
open Cert.AttnProof (AllReal real_of_all)

/-- A number times its own sigmoid. -/
def swish (u : EReal) : EReal := u * Ideal.logistic u

/-- It is real where the number is. -/
theorem swish_real (u : EReal) (h : ∃ r : ℝ, u = (r : EReal)) : ∃ r : ℝ, swish u = (r : EReal) := by
  obtain ⟨r, rfl⟩ := h
  exact ⟨r * (1 + Real.exp (-r))⁻¹, by unfold swish; rw [Ideal.logistic_coe, EReal.coe_mul]⟩

/-- A real number less itself is zero. -/
theorem rest_zero (u : EReal) (h : ∃ r : ℝ, u = (r : EReal)) : u - u = 0 := by
  obtain ⟨r, rfl⟩ := h
  rw [← EReal.coe_sub, sub_self]; rfl

theorem zero_bits : Ideal.ofBits .f32 0x00000000#32 = 0 := by
  simp [Ideal.ofBits, Ideal.ieee]

theorem one_bits : Ideal.ofBits .f32 0x3F800000#32 = 1 := by
  simp [Ideal.ofBits, Ideal.ieee]
  rw [← EReal.coe_mul, ← EReal.coe_one]
  norm_num

/-- The product of a 16 × 1024 and a 1024 × 1024 matrix, read at an entry. -/
theorem product_apply (a : FVec Ideal S16x1024 .bf16) (w : FVec Ideal S1024x1024 .bf16) (r : Fin 16) (j : Fin 1024) :
    matmul (φ₁ := .bf16) (φ₂ := .bf16) dot_S16x1024_S1024x1024_S16x1024_1_0_0_1_n_n none a w (constant (F := Ideal) S16x1024 .f32 0x00000000#32) (ix2 r j)
      = ∑ k : Fin 1024, HMul.hMul (α := EReal) (β := EReal) (a (ix2 r k)) (w (ix2 k j)) := by
  refine (Ideal.matmul_plain_apply none a w _ r j).trans ?_
  rw [show constant (F := Ideal) S16x1024 .f32 0x00000000#32 (ix2 r j) = (0 : EReal) from zero_bits, zero_add]

/-- What a grid step writes, at an entry: the row's product with the column of weights, plus the bias. -/
theorem payload_apply (x0 : Vec Ideal S16x1024 .f32) (x1 : Vec Ideal S1x1024x1024 .f32) (x2 : Vec Ideal S1x1x1024 .f32) (r : Fin 16) (j : Fin 1024)
    (hs : ∀ k : Fin 1024, ∃ u : ℝ, x0 (ix2 r k) = (u : EReal)) (hw : ∀ k : Fin 1024, ∃ u : ℝ, x1 (ix3 (0 : Fin 1) k j) = (u : EReal)) :
    k0_pay1 (F := Ideal) x0 x1 x2 (ix3 (0 : Fin 1) r j)
      = HAdd.hAdd (α := EReal) (β := EReal) (∑ k : Fin 1024, HMul.hMul (α := EReal) (β := EReal) (swish (x0 (ix2 r k))) (x1 (ix3 (0 : Fin 1) k j)))
          (x2 (ix3 (0 : Fin 1) (0 : Fin 1) j)) := by
  have eX : ∀ y : S16x1024.Idx, shapeCast S16x1024 x0 shapeCasts_S16x1024_S16x1024 y = x0 y := fun y =>
    shapeCast_apply x0 shapeCasts_S16x1024_S16x1024 y y rfl
  have eW : ∀ k : Fin 1024, shapeCast S1024x1024 x1 shapeCasts_S1x1024x1024_S1024x1024 (ix2 k j) = x1 (ix3 (0 : Fin 1) k j) := fun k =>
    shapeCast_apply x1 shapeCasts_S1x1024x1024_S1024x1024 (ix2 k j) (ix3 (0 : Fin 1) k j) (by
      rw [Shape.rowMajor_val_three, Shape.rowMajor_val_two]
      show (0 * 1024 + k.val) * 1024 + j.val = k.val * 1024 + j.val
      omega)
  have eB : broadcastTo S16x1024 (shapeCast S1x1024 x2 shapeCasts_S1x1x1024_S1x1024) broadcasts_S1x1024_S16x1024 (ix2 r j)
      = x2 (ix3 (0 : Fin 1) (0 : Fin 1) j) := by
    rw [broadcastTo_apply _ broadcasts_S1x1024_S16x1024 (ix2 r j) (ix2 (0 : Fin 1) j) (fun a => by
        match a with
        | ⟨0, _⟩ => rfl
        | ⟨1, _⟩ => rfl),
      shapeCast_apply x2 shapeCasts_S1x1x1024_S1x1024 (ix2 (0 : Fin 1) j) (ix3 (0 : Fin 1) (0 : Fin 1) j) (by
        rw [Shape.rowMajor_val_three, Shape.rowMajor_val_two]
        show (0 * 1 + 0) * 1024 + j.val = 0 * 1024 + j.val
        omega)]
  unfold k0_pay1
  rw [shapeCast_apply _ shapeCasts_S16x1024_S1x16x1024 (ix3 (0 : Fin 1) r j) (ix2 r j) (by
    rw [Shape.rowMajor_val_three, Shape.rowMajor_val_two]
    show r.val * 1024 + j.val = (0 * 16 + r.val) * 1024 + j.val
    omega)]
  refine congrArg₂ (fun a b : EReal => a + b) ?_ eB
  refine (congrArg₂ (fun a b : EReal => a + b) (product_apply _ _ r j)
    (congrArg₂ (fun a b : EReal => a + b) (product_apply _ _ r j) (product_apply _ _ r j))).trans ?_
  have hS : ∀ k : Fin 1024, swish (shapeCast S16x1024 x0 shapeCasts_S16x1024_S16x1024 (ix2 r k)) = swish (x0 (ix2 r k)) := fun k => by rw [eX]
  have h1 : (∑ k : Fin 1024, HMul.hMul (α := EReal) (β := EReal)
      (swish (shapeCast S16x1024 x0 shapeCasts_S16x1024_S16x1024 (ix2 r k)) - swish (shapeCast S16x1024 x0 shapeCasts_S16x1024_S16x1024 (ix2 r k)))
      (shapeCast S1024x1024 x1 shapeCasts_S1x1024x1024_S1024x1024 (ix2 k j))) = 0 := Finset.sum_eq_zero fun k _ => by
    rw [hS, rest_zero _ (swish_real _ (hs k)), zero_mul]
  have h2 : (∑ k : Fin 1024, HMul.hMul (α := EReal) (β := EReal)
      (swish (shapeCast S16x1024 x0 shapeCasts_S16x1024_S16x1024 (ix2 r k)))
      (HSub.hSub (α := EReal) (β := EReal) (shapeCast S1024x1024 x1 shapeCasts_S1x1024x1024_S1024x1024 (ix2 k j))
        (shapeCast S1024x1024 x1 shapeCasts_S1x1024x1024_S1024x1024 (ix2 k j)))) = 0 := Finset.sum_eq_zero fun k _ => by
    rw [eW, rest_zero _ (hw k), mul_zero]
  refine (congrArg₂ (fun a b : EReal => a + b) ?_ (congrArg₂ (fun a b : EReal => a + b) h1 h2)).trans ((congrArg (fun a : EReal => _ + a) (zero_add 0)).trans (add_zero _))
  exact Finset.sum_congr rfl fun k _ => congrArg₂ (fun a b : EReal => a * b) (hS k) (eW k)

/-- The reference at an entry. -/
theorem ref_apply (x0 : Vec Ideal S8x1024 .f32) (x1 : Vec Ideal S1024 .f32) (x2 : Vec Ideal S4x1024x6144 .f32) (x3 : Vec Ideal S4x6144 .f32)
    (l : Fin 4) (r : Fin 16) (j : Fin 6144) : Cert.ModRefIdeal.Read.val_main_v8 (F := Ideal) x0 x1 x2 x3 (ix3 l r j)
      = HAdd.hAdd (α := EReal) (β := EReal) (∑ k : Fin 1024, HMul.hMul (α := EReal) (β := EReal)
          (swish (Cert.ModRefIdeal.Read.val_main_v2 (F := Ideal) x0 x1 (ix2 r k))) (x2 (ix3 l k j))) (x3 (ix2 l j)) := by
  rw [Cert.ModRefIdeal.Read.val_main_v8_apply, Cert.ModRefIdeal.Read.val_main_v5_apply, Cert.ModRefIdeal.Read.val_main_v4_apply,
    Cert.ModRefIdeal.Read.val_main_v7_apply, Cert.ModRefIdeal.Read.val_main_v6_apply]
  refine congrArg₂ (fun a b : EReal => a + b) (Finset.sum_congr rfl fun k _ => ?_) (congrArg x3 (funext fun a => Fin.ext (by
    match a with
    | ⟨0, _⟩ => rfl
    | ⟨1, _⟩ => rfl)))
  refine (mul_comm (G := EReal) _ _).trans (congrArg₂ (fun a b : EReal => a * b) ?_ (congrArg x2 (funext fun a => Fin.ext (by
    match a with
    | ⟨0, _⟩ => rfl
    | ⟨1, _⟩ => rfl
    | ⟨2, _⟩ => rfl))))
  have ei : Cert.ModRefIdeal.Read.ridx_main_v4 (Cert.ModRefIdeal.Read.idx_main_v5 (ix3 l r j)) k = ix2 r k := funext fun a => Fin.ext (by
    match a with
    | ⟨0, _⟩ => rfl
    | ⟨1, _⟩ => rfl)
  rw [ei, Cert.ModRefIdeal.Read.val_main_v3_apply]
  refine congrArg (fun a : EReal => Cert.ModRefIdeal.Read.val_main_v2 (F := Ideal) x0 x1 (ix2 r k) * a) ?_
  show Ideal.div (Ideal.ofBits .f32 0x3F800000#32) (Ideal.ofBits .f32 0x3F800000#32
    + Ideal.exp (-(Cert.ModRefIdeal.Read.val_main_v2 (F := Ideal) x0 x1 (ix2 r k)))) = Ideal.logistic _
  rw [one_bits]; rfl

/-- Every row of the conditioning, the zero rows included, is real where the two arguments are. -/
theorem rows_real (x0 : Vec Ideal S8x1024 .f32) (x1 : Vec Ideal S1024 .f32) (h0 : AllReal (s := S8x1024) x0) (h1 : AllReal (s := S1024) x1)
    (i : S16x1024.Idx) : ∃ u : ℝ, Cert.ModRefIdeal.Read.val_main_v2 (F := Ideal) x0 x1 i = (u : EReal) := by
  unfold Cert.ModRefIdeal.Read.val_main_v2
  refine concatenate_forall (P := fun v : EReal => ∃ u : ℝ, v = (u : EReal)) _ _ _ _ (fun p hp => ?_) i
  simp only [List.mem_cons, List.not_mem_nil, or_false] at hp
  rcases hp with rfl | rfl | rfl
  · intro i
    show ∃ u : ℝ, Cert.ModRefIdeal.Read.val_main_v0 (F := Ideal) x1 i = (u : EReal)
    rw [Cert.ModRefIdeal.Read.val_main_v0_apply]; exact h1 _
  · exact fun i => h0 i
  · intro i
    show ∃ u : ℝ, Cert.ModRefIdeal.Read.val_main_v1 (F := Ideal) i = (u : EReal)
    rw [Cert.ModRefIdeal.Read.val_main_v1_apply, Cert.ModRefIdeal.Read.val_main_cst_apply]
    exact ⟨0, zero_bits⟩

section
variable (m : (ℓ : Loc nD τ sig) → Buf (Elt Ideal) ℓ) (c : Dev nD) (t : Fin cfg0.N)

/-- The conditioning rows as the call finds them are the reference's. -/
theorem rows_eq : V m c main_v2 = Cert.ModRefIdeal.Read.val_main_v2 (F := Ideal) (m ((c : Thread nD τ).loc main_arg0)) (m ((c : Thread nD τ).loc main_arg1)) := by
  unfold V V0
  simp only [hostOps0, List.flatten_cons, List.flatten_nil, List.append_nil, List.cons_append, List.nil_append]
  after_results
  rfl

/-- The bias as the call finds it, at an entry. -/
theorem bias_apply (l : Fin 4) (j : Fin 6144) : V m c main_v3 (ix3 l (0 : Fin 1) j) = m ((c : Thread nD τ).loc main_arg3) (ix2 l j) := by
  have e : V m c main_v3 = shapeCast S4x1x6144 (m ((c : Thread nD τ).loc main_arg3)) shapeCasts_S4x6144_S4x1x6144 := by
    unfold V V0
    simp only [hostOps0, List.flatten_cons, List.flatten_nil, List.append_nil, List.cons_append, List.nil_append]
    after_results
    rfl
  rw [e]
  exact shapeCast_apply _ shapeCasts_S4x6144_S4x1x6144 (ix3 l (0 : Fin 1) j) (ix2 l j) (by
    rw [Shape.rowMajor_val_three, Shape.rowMajor_val_two]
    show l.val * 6144 + j.val = (l.val * 1 + 0) * 6144 + j.val
    omega)

theorem steps_eq : cfg0.N = 24 := by decide +kernel

/-- The layer of a grid step. -/
def layerOf : Fin 4 := ⟨t.val / 6, by have h : t.val < 24 := steps_eq ▸ t.isLt; omega⟩

/-- Column `j` of a grid step's sixth of the columns. -/
def columnOf (j : Fin 1024) : Fin 6144 := ⟨1024 * (t.val % 6) + j.val, by omega⟩

theorem index_rows : ∀ t : Fin cfg0.N, win0_0.index t (0 : Fin 2) = 0 ∧ win0_0.index t (1 : Fin 2) = 0 := (by decide +kernel : ∀ t : Fin grid0.N, _)
theorem index_weights : ∀ t : Fin cfg0.N, win0_1.index t (0 : Fin 3) = t.val / 6 ∧ win0_1.index t (1 : Fin 3) = 0 ∧ win0_1.index t (2 : Fin 3) = t.val % 6 :=
  (by decide +kernel : ∀ t : Fin grid0.N, _)
theorem index_bias : ∀ t : Fin cfg0.N, win0_2.index t (0 : Fin 3) = t.val / 6 ∧ win0_2.index t (1 : Fin 3) = 0 ∧ win0_2.index t (2 : Fin 3) = t.val % 6 :=
  (by decide +kernel : ∀ t : Fin grid0.N, _)
theorem index_out : ∀ t : Fin cfg0.N, win0_3.index t (0 : Fin 3) = t.val / 6 ∧ win0_3.index t (1 : Fin 3) = 0 ∧ win0_3.index t (2 : Fin 3) = t.val % 6 :=
  (by decide +kernel : ∀ t : Fin grid0.N, _)

/-- A grid step's rows are all of them. -/
theorem block_rows (r : Fin 16) (k : Fin 1024) : iblk m c 0 t (ix2 r k) = V m c main_v2 (ix2 r k) := by
  obtain ⟨e0, e1⟩ := index_rows t
  refine congrArg (V m c main_v2) (funext fun a => Fin.ext ?_)
  match a with
  | ⟨0, _⟩ => show win0_0.index t (0 : Fin 2) * 16 + 1 * r.val = r.val; omega
  | ⟨1, _⟩ => show win0_0.index t (1 : Fin 2) * 1024 + 1 * k.val = k.val; omega

/-- A grid step's block of weights. -/
theorem block_weights (k j : Fin 1024) : iblk m c 1 t (ix3 (0 : Fin 1) k j) = V m c main_arg2 (ix3 (layerOf t) k (columnOf t j)) := by
  obtain ⟨e0, e1, e2⟩ := index_weights t
  refine congrArg (V m c main_arg2) (funext fun a => Fin.ext ?_)
  match a with
  | ⟨0, _⟩ => show win0_1.index t (0 : Fin 3) * 1 + 1 * 0 = t.val / 6; omega
  | ⟨1, _⟩ => show win0_1.index t (1 : Fin 3) * 1024 + 1 * k.val = k.val; omega
  | ⟨2, _⟩ => show win0_1.index t (2 : Fin 3) * 1024 + 1 * j.val = 1024 * (t.val % 6) + j.val; omega

/-- A grid step's block of the bias. -/
theorem block_bias (j : Fin 1024) : iblk m c 2 t (ix3 (0 : Fin 1) (0 : Fin 1) j) = V m c main_v3 (ix3 (layerOf t) (0 : Fin 1) (columnOf t j)) := by
  obtain ⟨e0, e1, e2⟩ := index_bias t
  refine congrArg (V m c main_v3) (funext fun a => Fin.ext ?_)
  match a with
  | ⟨0, _⟩ => show win0_2.index t (0 : Fin 3) * 1 + 1 * 0 = t.val / 6; omega
  | ⟨1, _⟩ => show win0_2.index t (1 : Fin 3) * 1 + 1 * 0 = 0; omega
  | ⟨2, _⟩ => show win0_2.index t (2 : Fin 3) * 1024 + 1 * j.val = 1024 * (t.val % 6) + j.val; omega

/-- Where a grid step's entries lie in the array. -/
theorem out_place (r : Fin 16) (j : Fin 1024) :
    ((cfg0.win 3).blk t).view.emb (ix3 (0 : Fin 1) r j) = ix3 (layerOf t) r (columnOf t j) := by
  obtain ⟨e0, e1, e2⟩ := index_out t
  refine funext fun a => Fin.ext ?_
  match a with
  | ⟨0, _⟩ => show win0_3.index t (0 : Fin 3) * 1 + 1 * 0 = t.val / 6; omega
  | ⟨1, _⟩ => show win0_3.index t (1 : Fin 3) * 16 + 1 * r.val = r.val; omega
  | ⟨2, _⟩ => show win0_3.index t (2 : Fin 3) * 1024 + 1 * j.val = 1024 * (t.val % 6) + j.val; omega

/-- The array the reference computes, before its last reshape. -/
abbrev wanted : Vec Ideal S4x16x6144 .f32 := Cert.ModRefIdeal.Read.val_main_v8 (F := Ideal) (m ((c : Thread nD τ).loc main_arg0)) (m ((c : Thread nD τ).loc main_arg1))
  (m ((c : Thread nD τ).loc main_arg2)) (m ((c : Thread nD τ).loc main_arg3))

variable (h0 : AllReal (s := S8x1024) (m ((c : Thread nD τ).loc main_arg0))) (h1 : AllReal (s := S1024) (m ((c : Thread nD τ).loc main_arg1)))
  (h2 : AllReal (s := S4x1024x6144) (m ((c : Thread nD τ).loc main_arg2)))

include h0 h1 h2 in
/-- What a grid step writes, at an entry, is the reference's entry there. -/
theorem point_eq (r : Fin 16) (j : Fin 1024) :
    k0_pay1 (F := Ideal) (iblk m c 0 t) (iblk m c 1 t) (iblk m c 2 t) (ix3 (0 : Fin 1) r j) = wanted m c (ix3 (layerOf t) r (columnOf t j)) := by
  have hr : ∀ k : Fin 1024, iblk m c 0 t (ix2 r k) = Cert.ModRefIdeal.Read.val_main_v2 (F := Ideal) (m ((c : Thread nD τ).loc main_arg0))
      (m ((c : Thread nD τ).loc main_arg1)) (ix2 r k) := fun k => (block_rows m c t r k).trans (congrFun (rows_eq m c) _)
  have hw : ∀ k : Fin 1024, iblk m c 1 t (ix3 (0 : Fin 1) k j) = m ((c : Thread nD τ).loc main_arg2) (ix3 (layerOf t) k (columnOf t j)) := fun k =>
    (block_weights m c t k j).trans (congrFun (V_main_arg2 m c) _)
  refine (payload_apply (iblk m c 0 t) (iblk m c 1 t) (iblk m c 2 t) r j (fun k => ?_) (fun k => ?_)).trans ?_
  · rw [hr]; exact rows_real _ _ h0 h1 _
  · rw [hw]; exact h2 _
  · refine Eq.trans ?_ (ref_apply _ _ _ _ (layerOf t) r (columnOf t j)).symm
    refine congrArg₂ (fun a b : EReal => a + b) (Finset.sum_congr rfl fun k _ => ?_) ((block_bias m c t j).trans (bias_apply m c _ _))
    exact congrArg₂ (fun a b : EReal => swish a * b) (hr k) (hw k)

include h0 h1 h2 in
/-- The array after the call is what the reference computes before its last reshape. -/
theorem array_eq : (dats m 0 c).arrAt 3 cfg0.N = wanted m c := by
  refine (dats m 0 c).arrAt_eq_of_covers 3 _ (by decide +kernel) fun t hf y => ?_
  obtain ⟨u, r, j, rfl⟩ : ∃ (u : Fin 1) (r : Fin 16) (j : Fin 1024), y = ix3 u r j := ⟨y 0, y 1, y 2, ValueIdx.eq_ix3 y⟩
  obtain rfl : u = 0 := Subsingleton.elim _ _
  refine Eq.trans ?_ ((point_eq m c t h0 h1 h2 r j).trans (congrArg (wanted m c) (out_place t r j)).symm)
  show (cfg0.win 3).cut (grid0.coords t) ((dats m 0 c).after 3 t) (ix3 (0 : Fin 1) r j) = _
  rw [after0_3]
  unfold out0_3
  rw [View.canon_cons_unit_lit _ _ _ (by decide), View.ld_unit_lit _ _ (by decide), View.ld_unit_lit _ _ (by decide), View.ld_unit_lit _ _ (by decide)]
  rfl

/-- The array after the call, with the layers' rows one after the other. -/
abbrev result : Vec Ideal S64x1x6144 .f32 :=
  shapeCast S64x1x6144 ((dats m 0 c).arrAt 3 cfg0.N : Vec Ideal S4x16x6144 .f32) shapeCasts_S4x16x6144_S64x1x6144

/-- The layers' rows one after the other, as the lines after the call leave them. -/
theorem tail_eq : Pipeline.afterTail₀ cfgs (dats m) 0 (V0 m) [hostOps1] c main_v5
    = result m c := by
  have e := Pipeline.withArrays_arr spec0 (by decide) c (V0 m c) (fun w => (dats m 0 c).arrAt w cfg0.N) 3
  unfold Pipeline.afterTail₀
  simp only [hostOps1, List.flatten_cons, List.flatten_nil, List.append_nil, List.cons_append, List.nil_append]
  after_results
  exact congrArg (fun a => shapeCast S64x1x6144 a shapeCasts_S4x16x6144_S64x1x6144) e

/-- The run, with its result named and its arguments unchanged. -/
theorem run_value (g : Dev nD → PrngReg) : θ_run defs (onTc (τ := τ) (main (F := Ideal))) ⟨m, fun _ => 0, g⟩ (fun r => ∀ c : Dev nD,
      r.2.mem ((c.tc : Thread nD τ).loc main_v5)
        = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v5 (Pipeline.mem_restRefs_of main_v5 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩) (run_main m g)

include h0 h1 h2 in
/-- The result is the reference's. -/
theorem result_eq : result m c
    = Cert.ModRefIdeal.Read.val_main_v9 (F := Ideal) (m ((c : Thread nD τ).loc main_arg0)) (m ((c : Thread nD τ).loc main_arg1))
      (m ((c : Thread nD τ).loc main_arg2)) (m ((c : Thread nD τ).loc main_arg3)) := by
  unfold result
  rw [array_eq m c h0 h1 h2]; rfl

/-- The precondition says that conditioning and weights are real. -/
theorem real_of_pre [Cert.Pre_finite_conditioning.Facts] (h : Cert.Pre_ModIdeal_finite_conditioning m) :
    AllReal (s := S8x1024) (m ((c : Thread nD τ).loc main_arg0)) ∧ AllReal (s := S1024) (m ((c : Thread nD τ).loc main_arg1))
      ∧ AllReal (s := S4x1024x6144) (m ((c : Thread nD τ).loc main_arg2)) := by
  obtain ⟨h0, h1, h3⟩ := h c
  dsimp only [Cert.Pre_finite_conditioning.fn] at h0 h1 h3
  exact ⟨real_of_all _ _ _ _ h0, real_of_all _ _ _ _ h1, real_of_all _ _ _ _ h3⟩

end

end Cert.ModProof
end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_scores
public import proofs.«01_k».proof.Proof.Gen.AttnIdeal.Value
public import proofs.«01_k».proof.Proof.Gen.AttnRefIdeal.Read
public import proofs.«01_k».proof.Proof.Equation
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.ExpertsEq
public import proofs.«01_k».proof.Proof.Modulation
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModRefIdeal
public import proofs.«01_k».proof.Proof.Gen.ModRefIdeal.Run
public import proofs.«01_k».proof.Proof.Gen.ModRefIdeal.Read
public import proofs.«01_k».proof.Proof.Gen.Pre_finite_conditioning
public import Idealize.ShloMosaic.Lib.Pipeline.Regions
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The reference runs, with its arguments unchanged and every counter at zero. -/
theorem frame_ref : Cert.quiescent_AttnRefIdeal (hAttnRefIdeal := Cert.AttnRefIdeal.Gen.facts) := by
  intro m g _
  exact (θ_run Cert.AttnRefIdeal.defs _ _).mono (fun r h => ⟨fun c => (h c).2, sem_eq_zero_of_no_sems (by decide) r.2⟩)
    (Cert.AttnRefIdeal.Value.run m g)

/-- Kernel and reference end with the same array. -/
theorem same : Cert.algebraic_AttnIdeal_AttnRefIdeal_pre_finite_scores (hAttnIdeal := Cert.AttnIdeal.Gen.facts)
    (hAttnRefIdeal := Cert.AttnRefIdeal.Gen.facts) (hPre_finite_scores := Cert.Pre_finite_scores.Gen.facts) := by
  intro m g m' g' hpre hargs
  refine ⟨fun c => (Cert.AttnIdeal.Gen.dats m 0 c).arrAt 5 Cert.AttnIdeal.cfg0.N, Cert.AttnIdeal.Value.run_blocks m g, ?_⟩
  refine (θ_run Cert.AttnRefIdeal.defs _ _).mono (fun r h c => ⟨(h c).1.trans ?_, (h c).2⟩) (Cert.AttnRefIdeal.Value.run m' g')
  obtain ⟨hq, hk, hc⟩ := Cert.AttnProof.real_of_pre m hpre c
  obtain ⟨e0, e1, e2, e3, e4, e5⟩ := hargs c
  show _ = (Cert.AttnIdeal.Gen.dats m 0 c).arrAt 5 Cert.AttnIdeal.cfg0.N
  rw [Cert.AttnProof.array_eq m c hq hk hc, Cert.AttnRefIdeal.Read.val_main_v23_eq, e0, e1, e2, e3, e4, e5]

/-- The experts' kernel runs over any floats, with its arguments unchanged and every counter at zero. -/
theorem frame_any {F : FTy → Type} [FloatOps F] (m : (ℓ : Loc Cert.ExpertsIdeal.nD Cert.ExpertsIdeal.τ Cert.ExpertsIdeal.sig) → Buf (Elt F) ℓ)
    (g : Dev Cert.ExpertsIdeal.nD → PrngReg) :
    θ_run (Cert.ExpertsIdeal.defs (F := F)) (onTc (τ := Cert.ExpertsIdeal.τ) (Cert.ExpertsIdeal.main (F := F))) ⟨m, fun _ => 0, g⟩ (fun r =>
      (∀ c : Dev Cert.ExpertsIdeal.nD,
        r.2.mem (c.tc.loc Cert.ExpertsIdeal.main_arg0) = m (c.tc.loc Cert.ExpertsIdeal.main_arg0)
        ∧ r.2.mem (c.tc.loc Cert.ExpertsIdeal.main_arg1) = m (c.tc.loc Cert.ExpertsIdeal.main_arg1)
        ∧ r.2.mem (c.tc.loc Cert.ExpertsIdeal.main_arg2) = m (c.tc.loc Cert.ExpertsIdeal.main_arg2)
        ∧ r.2.mem (c.tc.loc Cert.ExpertsIdeal.main_arg3) = m (c.tc.loc Cert.ExpertsIdeal.main_arg3)
        ∧ r.2.mem (c.tc.loc Cert.ExpertsIdeal.main_arg4) = m (c.tc.loc Cert.ExpertsIdeal.main_arg4)
        ∧ r.2.mem (c.tc.loc Cert.ExpertsIdeal.main_arg5) = m (c.tc.loc Cert.ExpertsIdeal.main_arg5))
      ∧ r.2.sem = fun _ => 0) := by
  refine (θ_run Cert.ExpertsIdeal.defs _ _).mono (fun r h => ⟨fun c => ?_, h.2⟩) (Cert.ExpertsProof.run_value m g (Cert.ExpertsProof.in_range m))
  obtain ⟨e0, e1, e2, e3, e4, e5, _⟩ := h.1 c
  exact ⟨e0, e1, e2, e3, e4, e5⟩

/-- The experts' kernel runs, with its arguments unchanged and every counter at zero. -/
theorem frame_experts_ideal : Cert.quiescent_ExpertsIdeal (hExpertsIdeal := Cert.ExpertsIdeal.Gen.facts) :=
  fun m g _ => frame_any m g

/-- So does it on the machine's floats: the text is the same, so the one run is a run of both. -/
theorem frame_experts : Cert.quiescent_Experts (hExperts := Cert.Experts.Gen.facts) := by
  intro m g _
  refine Eq.mpr ?_ (frame_any (F := Bits) m g)
  chain_rfl

/-- The experts' reference runs, with its arguments unchanged and every counter at zero. -/
theorem frame_experts_ref : Cert.quiescent_ExpertsRefIdeal (hExpertsRefIdeal := Cert.ExpertsRefIdeal.Gen.facts) := by
  intro m g _
  exact (θ_run Cert.ExpertsRefIdeal.defs _ _).mono (fun r h => ⟨fun c => (h c).2, sem_eq_zero_of_no_sems (by decide) r.2⟩)
    (Cert.ExpertsRefIdeal.Value.run m g)

/-- The experts' kernel and its reference end with the same array. -/
theorem same_experts : Cert.algebraic_ExpertsIdeal_ExpertsRefIdeal (hExpertsIdeal := Cert.ExpertsIdeal.Gen.facts)
    (hExpertsRefIdeal := Cert.ExpertsRefIdeal.Gen.facts) := by
  intro m g m' g' _ hargs
  refine ⟨fun c => Cert.ExpertsProof.wanted m c, ?_, ?_⟩
  · refine (θ_run Cert.ExpertsIdeal.defs _ _).mono (fun r h c => ?_)
      (Cert.ExpertsProof.run_value (F := Ideal) m g (Cert.ExpertsProof.in_range m))
    obtain ⟨e0, e1, e2, e3, e4, e5, e⟩ := h.1 c
    exact ⟨e.trans (Cert.ExpertsProof.final_eq m _ c), e0, e1, e2, e3, e4, e5⟩
  · refine (θ_run Cert.ExpertsRefIdeal.defs _ _).mono (fun r h c => ⟨(h c).1.trans ?_, (h c).2⟩) (Cert.ExpertsRefIdeal.Value.run m' g')
    obtain ⟨e0, e1, e2, e3, e4, e5⟩ := hargs c
    show _ = Cert.ExpertsProof.wanted m c
    rw [Cert.ExpertsRefIdeal.Read.val_main_v86_eq, e0, e1, e2, e3, e4, e5]

/-- The modulation's reference runs, with its arguments unchanged and every counter at zero. -/
theorem frame_mod_ref : Cert.quiescent_ModRefIdeal (hModRefIdeal := Cert.ModRefIdeal.Gen.facts) := by
  intro m g _
  exact (θ_run Cert.ModRefIdeal.defs _ _).mono (fun r h => ⟨fun c => (h c).2, sem_eq_zero_of_no_sems (by decide) r.2⟩)
    (Cert.ModRefIdeal.Value.run m g)

/-- The modulation's kernel and its reference end with the same array. -/
theorem same_mod : Cert.algebraic_ModIdeal_ModRefIdeal_pre_finite_conditioning (hModIdeal := Cert.ModIdeal.Gen.facts)
    (hModRefIdeal := Cert.ModRefIdeal.Gen.facts) (hPre_finite_conditioning := Cert.Pre_finite_conditioning.Gen.facts) := by
  intro m g m' g' hpre hargs
  refine ⟨fun c => Cert.ModProof.result m c, Cert.ModProof.run_value m g, ?_⟩
  refine (θ_run Cert.ModRefIdeal.defs _ _).mono (fun r h c => ⟨(h c).1.trans ?_, (h c).2⟩) (Cert.ModRefIdeal.Value.run m' g')
  obtain ⟨h0, h1, h2⟩ := Cert.ModProof.real_of_pre m c hpre
  obtain ⟨e0, e1, e2, e3⟩ := hargs c
  refine Eq.trans ?_ (Cert.ModProof.result_eq m c h0 h1 h2).symm
  rw [Cert.ModRefIdeal.Read.val_main_v9_eq, e0, e1, e2, e3]

/-- All that is claimed. -/
theorem claim : Cert.Claim := ⟨Cert.Attn.Gen.facts, Cert.AttnIdeal.Gen.facts, Cert.AttnRefIdeal.Gen.facts, Cert.Experts.Gen.facts,
  Cert.ExpertsIdeal.Gen.facts, Cert.ExpertsRefIdeal.Gen.facts, Cert.Mod.Gen.facts, Cert.ModIdeal.Gen.facts, Cert.ModRefIdeal.Gen.facts,
  Cert.Pre_finite_scores.Gen.facts, Cert.Pre_finite_conditioning.Gen.facts,
  fun m g _ => Cert.Attn.Gen.frame m g, fun m g _ => Cert.AttnIdeal.Gen.frame m g, fun m g _ => Cert.AttnIdeal.Gen.frame m g,
  frame_ref, fun m g _ => frame_ref m g trivial,
  frame_experts, frame_experts_ideal, frame_experts_ref,
  fun m g _ => Cert.Mod.Gen.frame m g, fun m g _ => Cert.ModIdeal.Gen.frame m g, fun m g _ => Cert.ModIdeal.Gen.frame m g,
  frame_mod_ref, fun m g _ => frame_mod_ref m g trivial,
  IdealRules.named_const.statement Cert.AttnIdeal.κ "scale" .f32 0x3E38AA3B#32 _ rfl, same, trivial, same_experts, trivial, same_mod⟩

end Cert.Proof

end
